-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 512]⟩ ⟨2, ![8192, 8192]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 4096]⟩ ⟨2, ![8192, 4096]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x512 : Shape := ⟨2, ![8192, 512]⟩
abbrev S512x4096 : Shape := ⟨2, ![512, 4096]⟩
abbrev S8192x4096 : Shape := ⟨2, ![8192, 4096]⟩
abbrev S2x512x2048 : Shape := ⟨3, ![2, 512, 2048]⟩
abbrev S512x2048 : Shape := ⟨2, ![512, 2048]⟩
abbrev S2x2 : Shape := ⟨2, ![2, 2]⟩
abbrev S30x2 : Shape := ⟨2, ![30, 2]⟩
abbrev S2 : Shape := ⟨1, ![2]⟩
abbrev S512x512 : Shape := ⟨2, ![512, 512]⟩
abbrev S1x512x2048 : Shape := ⟨3, ![1, 512, 2048]⟩
abbrev S1x1 : Shape := ⟨2, ![1, 1]⟩
abbrev S_ : Shape := ⟨0, ![]⟩
abbrev S512x1024 : Shape := ⟨2, ![512, 1024]⟩
abbrev S1x512x1024 : Shape := ⟨3, ![1, 512, 1024]⟩
abbrev S1 : Shape := ⟨1, ![1]⟩

abbrev nBuf : Space → Nat
  | .hbm => 5
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x4096, .f32⟩
  | .hbm, ⟨2, _⟩ => ⟨S8192x4096, .f32⟩
  | .hbm, ⟨3, _⟩ => ⟨S2x512x2048, .f32⟩
  | .hbm, ⟨4, _⟩ => ⟨S2x512x2048, .f32⟩
  | .local _ .vmem, ⟨0, _⟩ => ⟨S8192x512, .f32⟩
  | .local _ .vmem, ⟨1, _⟩ => ⟨S512x4096, .f32⟩
  | .local _ .vmem, ⟨2, _⟩ => ⟨S2x512x2048, .f32⟩
  | .local _ .vmem, ⟨3, _⟩ => ⟨S2x512x2048, .f32⟩
  | .local _ .vmem, ⟨4, _⟩ => ⟨S512x2048, .f32⟩
  | .local _ .vmem, ⟨5, _⟩ => ⟨S512x2048, .f32⟩
  | _, _ => ⟨S8192x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 136 → Bool
  | ⟨i, _⟩ => dmaSemScopedAt i

abbrev sig : RefSig :=
  (ofTc nBuf bufTy 1 136 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_5 : BitVec 32 := 16#32
  let v8 : BitVec 32 := Scalar.addi v2 c16_i32_5
  let c1_i32_6 : BitVec 32 := 1#32
  let v9 : BitVec 32 := Scalar.subi v8 c1_i32_6
  let c16_i32_7 : BitVec 32 := 16#32
  let v10 : BitVec 32 := Scalar.remsi v9 c16_i32_7
  let c512_i32 : BitVec 32 := 512#32
  let v11 : BitVec 32 := Scalar.muli v10 c512_i32
  let v12 : Index := Scalar.indexCast v11
  let c0 : Index := 0#32
  ![v12.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_13 : BitVec 32 := 1#32
  let v21 : BitVec 32 := Scalar.addi v2 c1_i32_13
  let c16_i32_14 : BitVec 32 := 16#32
  let v22 : BitVec 32 := Scalar.remsi v21 c16_i32_14
  let c512_i32_15 : BitVec 32 := 512#32
  let v23 : BitVec 32 := Scalar.muli v22 c512_i32_15
  let v24 : Index := Scalar.indexCast v23
  let c0_16 : Index := 0#32
  ![v24.toNat, 0]
def k0_dev1 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_54 : BitVec 32 := 1#32
  let v58 : BitVec 32 := Scalar.muli v5 c1_i32_54
  let v59 : BitVec 32 := Scalar.addi c0_i32_55 v58
  v59.toNat
def k0_dev2 (d0 : Dev nD) : Nat :=
  let c0_i32_58 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_57 : BitVec 32 := 1#32
  let v60 : BitVec 32 := Scalar.muli v7 c1_i32_57
  let v61 : BitVec 32 := Scalar.addi c0_i32_58 v60
  v61.toNat
def k0_off3 (d0 : Dev nD) (c1_i32_59 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v62 : BitVec 32 := Scalar.addi v2 c32_i32
  let v63 : BitVec 32 := Scalar.subi v62 c1_i32_59
  let c16_i32_60 : BitVec 32 := 16#32
  let v64 : BitVec 32 := Scalar.remsi v63 c16_i32_60
  let c512_i32_61 : BitVec 32 := 512#32
  let v65 : BitVec 32 := Scalar.muli v64 c512_i32_61
  let c0_i32_69 : BitVec 32 := 0#32
  ![v65.toNat, 0]
def k0_dev3 (d0 : Dev nD) : Nat :=
  let c0_i32_68 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_67 : BitVec 32 := 1#32
  let v66 : BitVec 32 := Scalar.muli v7 c1_i32_67
  let v67 : BitVec 32 := Scalar.addi c0_i32_68 v66
  v67.toNat
def k0_off4 (d0 : Dev nD) (c1_i32_72 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v75 : BitVec 32 := Scalar.addi v2 c1_i32_72
  let c16_i32_73 : BitVec 32 := 16#32
  let v76 : BitVec 32 := Scalar.remsi v75 c16_i32_73
  let c512_i32_74 : BitVec 32 := 512#32
  let v77 : BitVec 32 := Scalar.muli v76 c512_i32_74
  let c2048_i32 : BitVec 32 := 2048#32
  ![v77.toNat, 2048]
def k0_dev4 (d0 : Dev nD) : Nat :=
  let c0_i32_81 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_80 : BitVec 32 := 1#32
  let v78 : BitVec 32 := Scalar.muli v5 c1_i32_80
  let v79 : BitVec 32 := Scalar.addi c0_i32_81 v78
  v79.toNat
def k0_off5 (d0 : Dev nD) (c1_i32_85 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_84 : BitVec 32 := 32#32
  let v87 : BitVec 32 := Scalar.addi v2 c32_i32_84
  let v88 : BitVec 32 := Scalar.subi v87 c1_i32_85
  let c16_i32_86 : BitVec 32 := 16#32
  let v89 : BitVec 32 := Scalar.remsi v88 c16_i32_86
  let c512_i32_87 : BitVec 32 := 512#32
  let v90 : BitVec 32 := Scalar.muli v89 c512_i32_87
  let c1024_i32 : BitVec 32 := 1024#32
  ![v90.toNat, 1024]
def k0_dev5 (d0 : Dev nD) : Nat :=
  let c0_i32_94 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_93 : BitVec 32 := 1#32
  let v91 : BitVec 32 := Scalar.muli v7 c1_i32_93
  let v92 : BitVec 32 := Scalar.addi c0_i32_94 v91
  v92.toNat
def k0_off6 (d0 : Dev nD) (c1_i32_97 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v100 : BitVec 32 := Scalar.addi v2 c1_i32_97
  let c16_i32_98 : BitVec 32 := 16#32
  let v101 : BitVec 32 := Scalar.remsi v100 c16_i32_98
  let c512_i32_99 : BitVec 32 := 512#32
  let v102 : BitVec 32 := Scalar.muli v101 c512_i32_99
  let c3072_i32 : BitVec 32 := 3072#32
  ![v102.toNat, 3072]
def k0_dev6 (d0 : Dev nD) : Nat :=
  let c0_i32_106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_105 : BitVec 32 := 1#32
  let v103 : BitVec 32 := Scalar.muli v5 c1_i32_105
  let v104 : BitVec 32 := Scalar.addi c0_i32_106 v103
  v104.toNat
def k0_off7 (d0 : Dev nD) (c0_i32_110 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_109 : BitVec 32 := 32#32
  let v112 : BitVec 32 := Scalar.addi v2 c32_i32_109
  let v113 : BitVec 32 := Scalar.subi v112 c0_i32_110
  let c2_i32_111 : BitVec 32 := 2#32
  let v114 : BitVec 32 := Scalar.subi v113 c2_i32_111
  let c16_i32_112 : BitVec 32 := 16#32
  let v115 : BitVec 32 := Scalar.remsi v114 c16_i32_112
  let c512_i32_113 : BitVec 32 := 512#32
  let v116 : BitVec 32 := Scalar.muli v115 c512_i32_113
  let v117 : Index := Scalar.indexCast v116
  let c0_114 : Index := 0#32
  ![v117.toNat, 0]
def k0_off8 (d0 : Dev nD) (c0_i32_118 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v123 : BitVec 32 := Scalar.addi v2 c0_i32_118
  let c2_i32_119 : BitVec 32 := 2#32
  let v124 : BitVec 32 := Scalar.addi v123 c2_i32_119
  let c16_i32_120 : BitVec 32 := 16#32
  let v125 : BitVec 32 := Scalar.remsi v124 c16_i32_120
  let c512_i32_121 : BitVec 32 := 512#32
  let v126 : BitVec 32 := Scalar.muli v125 c512_i32_121
  let v127 : Index := Scalar.indexCast v126
  let c0_122 : Index := 0#32
  ![v127.toNat, 0]
def k0_off9 (d0 : Dev nD) (c0_i32_137 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_136 : BitVec 32 := 32#32
  let v140 : BitVec 32 := Scalar.addi v2 c32_i32_136
  let v141 : BitVec 32 := Scalar.subi v140 c0_i32_137
  let c2_i32_138 : BitVec 32 := 2#32
  let v142 : BitVec 32 := Scalar.subi v141 c2_i32_138
  let c16_i32_139 : BitVec 32 := 16#32
  let v143 : BitVec 32 := Scalar.remsi v142 c16_i32_139
  let c512_i32_140 : BitVec 32 := 512#32
  let v144 : BitVec 32 := Scalar.muli v143 c512_i32_140
  let c0_i32_145 : BitVec 32 := 0#32
  ![v144.toNat, 0]
def k0_dev7 (d0 : Dev nD) : Nat :=
  let c0_i32_181 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_180 : BitVec 32 := 1#32
  let v175 : BitVec 32 := Scalar.muli v7 c1_i32_180
  let v176 : BitVec 32 := Scalar.addi c0_i32_181 v175
  v176.toNat
def k0_off10 (d0 : Dev nD) (c0_i32_195 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v191 : BitVec 32 := Scalar.addi v2 c0_i32_195
  let c2_i32_196 : BitVec 32 := 2#32
  let v192 : BitVec 32 := Scalar.addi v191 c2_i32_196
  let c16_i32_197 : BitVec 32 := 16#32
  let v193 : BitVec 32 := Scalar.remsi v192 c16_i32_197
  let c512_i32_198 : BitVec 32 := 512#32
  let v194 : BitVec 32 := Scalar.muli v193 c512_i32_198
  let c2048_i32_203 : BitVec 32 := 2048#32
  ![v194.toNat, 2048]
def k0_dev8 (d0 : Dev nD) : Nat :=
  let c0_i32_239 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_238 : BitVec 32 := 1#32
  let v224 : BitVec 32 := Scalar.muli v5 c1_i32_238
  let v225 : BitVec 32 := Scalar.addi c0_i32_239 v224
  v225.toNat
def k0_off11 (d0 : Dev nD) (c0_i32_254 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_253 : BitVec 32 := 32#32
  let v240 : BitVec 32 := Scalar.addi v2 c32_i32_253
  let v241 : BitVec 32 := Scalar.subi v240 c0_i32_254
  let c2_i32_255 : BitVec 32 := 2#32
  let v242 : BitVec 32 := Scalar.subi v241 c2_i32_255
  let c16_i32_256 : BitVec 32 := 16#32
  let v243 : BitVec 32 := Scalar.remsi v242 c16_i32_256
  let c512_i32_257 : BitVec 32 := 512#32
  let v244 : BitVec 32 := Scalar.muli v243 c512_i32_257
  let c1024_i32_262 : BitVec 32 := 1024#32
  ![v244.toNat, 1024]
def k0_dev9 (d0 : Dev nD) : Nat :=
  let c0_i32_298 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_297 : BitVec 32 := 1#32
  let v275 : BitVec 32 := Scalar.muli v7 c1_i32_297
  let v276 : BitVec 32 := Scalar.addi c0_i32_298 v275
  v276.toNat
def k0_off12 (d0 : Dev nD) (c0_i32_312 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v291 : BitVec 32 := Scalar.addi v2 c0_i32_312
  let c2_i32_313 : BitVec 32 := 2#32
  let v292 : BitVec 32 := Scalar.addi v291 c2_i32_313
  let c16_i32_314 : BitVec 32 := 16#32
  let v293 : BitVec 32 := Scalar.remsi v292 c16_i32_314
  let c512_i32_315 : BitVec 32 := 512#32
  let v294 : BitVec 32 := Scalar.muli v293 c512_i32_315
  let c3072_i32_320 : BitVec 32 := 3072#32
  ![v294.toNat, 3072]
def k0_dev10 (d0 : Dev nD) : Nat :=
  let c0_i32_356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_355 : BitVec 32 := 1#32
  let v324 : BitVec 32 := Scalar.muli v5 c1_i32_355
  let v325 : BitVec 32 := Scalar.addi c0_i32_356 v324
  v325.toNat
def k0_dev11 (d0 : Dev nD) : Nat :=
  let c0_i32_441 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_440 : BitVec 32 := 1#32
  let v401 : BitVec 32 := Scalar.muli v7 c1_i32_440
  let v402 : BitVec 32 := Scalar.addi c0_i32_441 v401
  v402.toNat
def k0_dev12 (d0 : Dev nD) : Nat :=
  let c0_i32_508 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_507 : BitVec 32 := 1#32
  let v455 : BitVec 32 := Scalar.muli v5 c1_i32_507
  let v456 : BitVec 32 := Scalar.addi c0_i32_508 v455
  v456.toNat
def k0_dev13 (d0 : Dev nD) : Nat :=
  let c0_i32_577 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_576 : BitVec 32 := 1#32
  let v511 : BitVec 32 := Scalar.muli v7 c1_i32_576
  let v512 : BitVec 32 := Scalar.addi c0_i32_577 v511
  v512.toNat
def k0_dev14 (d0 : Dev nD) : Nat :=
  let c0_i32_644 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_643 : BitVec 32 := 1#32
  let v565 : BitVec 32 := Scalar.muli v5 c1_i32_643
  let v566 : BitVec 32 := Scalar.addi c0_i32_644 v565
  v566.toNat
def k0_dev15 (d0 : Dev nD) : Nat :=
  let c0_i32_729 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_728 : BitVec 32 := 1#32
  let v642 : BitVec 32 := Scalar.muli v7 c1_i32_728
  let v643 : BitVec 32 := Scalar.addi c0_i32_729 v642
  v643.toNat
def k0_dev16 (d0 : Dev nD) : Nat :=
  let c0_i32_796 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_795 : BitVec 32 := 1#32
  let v696 : BitVec 32 := Scalar.muli v5 c1_i32_795
  let v697 : BitVec 32 := Scalar.addi c0_i32_796 v696
  v697.toNat
def k0_dev17 (d0 : Dev nD) : Nat :=
  let c0_i32_865 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_864 : BitVec 32 := 1#32
  let v752 : BitVec 32 := Scalar.muli v7 c1_i32_864
  let v753 : BitVec 32 := Scalar.addi c0_i32_865 v752
  v753.toNat
def k0_dev18 (d0 : Dev nD) : Nat :=
  let c0_i32_932 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_931 : BitVec 32 := 1#32
  let v806 : BitVec 32 := Scalar.muli v5 c1_i32_931
  let v807 : BitVec 32 := Scalar.addi c0_i32_932 v806
  v807.toNat
def k0_dev19 (d0 : Dev nD) : Nat :=
  let c0_i32_1017 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1016 : BitVec 32 := 1#32
  let v883 : BitVec 32 := Scalar.muli v7 c1_i32_1016
  let v884 : BitVec 32 := Scalar.addi c0_i32_1017 v883
  v884.toNat
def k0_dev20 (d0 : Dev nD) : Nat :=
  let c0_i32_1084 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1083 : BitVec 32 := 1#32
  let v937 : BitVec 32 := Scalar.muli v5 c1_i32_1083
  let v938 : BitVec 32 := Scalar.addi c0_i32_1084 v937
  v938.toNat
def k0_dev21 (d0 : Dev nD) : Nat :=
  let c0_i32_1153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1152 : BitVec 32 := 1#32
  let v993 : BitVec 32 := Scalar.muli v7 c1_i32_1152
  let v994 : BitVec 32 := Scalar.addi c0_i32_1153 v993
  v994.toNat
def k0_dev22 (d0 : Dev nD) : Nat :=
  let c0_i32_1220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1219 : BitVec 32 := 1#32
  let v1047 : BitVec 32 := Scalar.muli v5 c1_i32_1219
  let v1048 : BitVec 32 := Scalar.addi c0_i32_1220 v1047
  v1048.toNat
def k0_dev23 (d0 : Dev nD) : Nat :=
  let c0_i32_1305 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1304 : BitVec 32 := 1#32
  let v1124 : BitVec 32 := Scalar.muli v7 c1_i32_1304
  let v1125 : BitVec 32 := Scalar.addi c0_i32_1305 v1124
  v1125.toNat
def k0_dev24 (d0 : Dev nD) : Nat :=
  let c0_i32_1372 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1371 : BitVec 32 := 1#32
  let v1178 : BitVec 32 := Scalar.muli v5 c1_i32_1371
  let v1179 : BitVec 32 := Scalar.addi c0_i32_1372 v1178
  v1179.toNat
def k0_dev25 (d0 : Dev nD) : Nat :=
  let c0_i32_1441 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1440 : BitVec 32 := 1#32
  let v1234 : BitVec 32 := Scalar.muli v7 c1_i32_1440
  let v1235 : BitVec 32 := Scalar.addi c0_i32_1441 v1234
  v1235.toNat
def k0_dev26 (d0 : Dev nD) : Nat :=
  let c0_i32_1508 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1507 : BitVec 32 := 1#32
  let v1288 : BitVec 32 := Scalar.muli v5 c1_i32_1507
  let v1289 : BitVec 32 := Scalar.addi c0_i32_1508 v1288
  v1289.toNat
def k0_dev27 (d0 : Dev nD) : Nat :=
  let c0_i32_1593 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1592 : BitVec 32 := 1#32
  let v1365 : BitVec 32 := Scalar.muli v7 c1_i32_1592
  let v1366 : BitVec 32 := Scalar.addi c0_i32_1593 v1365
  v1366.toNat
def k0_dev28 (d0 : Dev nD) : Nat :=
  let c0_i32_1660 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1659 : BitVec 32 := 1#32
  let v1419 : BitVec 32 := Scalar.muli v5 c1_i32_1659
  let v1420 : BitVec 32 := Scalar.addi c0_i32_1660 v1419
  v1420.toNat
def k0_dev29 (d0 : Dev nD) : Nat :=
  let c0_i32_1729 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1728 : BitVec 32 := 1#32
  let v1475 : BitVec 32 := Scalar.muli v7 c1_i32_1728
  let v1476 : BitVec 32 := Scalar.addi c0_i32_1729 v1475
  v1476.toNat
def k0_dev30 (d0 : Dev nD) : Nat :=
  let c0_i32_1796 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1795 : BitVec 32 := 1#32
  let v1529 : BitVec 32 := Scalar.muli v5 c1_i32_1795
  let v1530 : BitVec 32 := Scalar.addi c0_i32_1796 v1529
  v1530.toNat
def k0_dev31 (d0 : Dev nD) : Nat :=
  let c0_i32_1881 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1880 : BitVec 32 := 1#32
  let v1606 : BitVec 32 := Scalar.muli v7 c1_i32_1880
  let v1607 : BitVec 32 := Scalar.addi c0_i32_1881 v1606
  v1607.toNat
def k0_dev32 (d0 : Dev nD) : Nat :=
  let c0_i32_1948 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1947 : BitVec 32 := 1#32
  let v1660 : BitVec 32 := Scalar.muli v5 c1_i32_1947
  let v1661 : BitVec 32 := Scalar.addi c0_i32_1948 v1660
  v1661.toNat
def k0_dev33 (d0 : Dev nD) : Nat :=
  let c0_i32_2017 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2016 : BitVec 32 := 1#32
  let v1716 : BitVec 32 := Scalar.muli v7 c1_i32_2016
  let v1717 : BitVec 32 := Scalar.addi c0_i32_2017 v1716
  v1717.toNat
def k0_dev34 (d0 : Dev nD) : Nat :=
  let c0_i32_2084 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2083 : BitVec 32 := 1#32
  let v1770 : BitVec 32 := Scalar.muli v5 c1_i32_2083
  let v1771 : BitVec 32 := Scalar.addi c0_i32_2084 v1770
  v1771.toNat
def k0_dev35 (d0 : Dev nD) : Nat :=
  let c0_i32_2169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2168 : BitVec 32 := 1#32
  let v1847 : BitVec 32 := Scalar.muli v7 c1_i32_2168
  let v1848 : BitVec 32 := Scalar.addi c0_i32_2169 v1847
  v1848.toNat
def k0_dev36 (d0 : Dev nD) : Nat :=
  let c0_i32_2236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2235 : BitVec 32 := 1#32
  let v1901 : BitVec 32 := Scalar.muli v5 c1_i32_2235
  let v1902 : BitVec 32 := Scalar.addi c0_i32_2236 v1901
  v1902.toNat
def k0_dev37 (d0 : Dev nD) : Nat :=
  let c0_i32_2305 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2304 : BitVec 32 := 1#32
  let v1957 : BitVec 32 := Scalar.muli v7 c1_i32_2304
  let v1958 : BitVec 32 := Scalar.addi c0_i32_2305 v1957
  v1958.toNat
def k0_dev38 (d0 : Dev nD) : Nat :=
  let c0_i32_2372 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2371 : BitVec 32 := 1#32
  let v2011 : BitVec 32 := Scalar.muli v5 c1_i32_2371
  let v2012 : BitVec 32 := Scalar.addi c0_i32_2372 v2011
  v2012.toNat
def k0_dev39 (d0 : Dev nD) : Nat :=
  let c0_i32_2457 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2456 : BitVec 32 := 1#32
  let v2088 : BitVec 32 := Scalar.muli v7 c1_i32_2456
  let v2089 : BitVec 32 := Scalar.addi c0_i32_2457 v2088
  v2089.toNat
def k0_dev40 (d0 : Dev nD) : Nat :=
  let c0_i32_2524 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2523 : BitVec 32 := 1#32
  let v2142 : BitVec 32 := Scalar.muli v5 c1_i32_2523
  let v2143 : BitVec 32 := Scalar.addi c0_i32_2524 v2142
  v2143.toNat
def k0_dev41 (d0 : Dev nD) : Nat :=
  let c0_i32_2593 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2592 : BitVec 32 := 1#32
  let v2198 : BitVec 32 := Scalar.muli v7 c1_i32_2592
  let v2199 : BitVec 32 := Scalar.addi c0_i32_2593 v2198
  v2199.toNat
def k0_dev42 (d0 : Dev nD) : Nat :=
  let c0_i32_2660 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2659 : BitVec 32 := 1#32
  let v2252 : BitVec 32 := Scalar.muli v5 c1_i32_2659
  let v2253 : BitVec 32 := Scalar.addi c0_i32_2660 v2252
  v2253.toNat
def k0_dev43 (d0 : Dev nD) : Nat :=
  let c0_i32_2745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2744 : BitVec 32 := 1#32
  let v2329 : BitVec 32 := Scalar.muli v7 c1_i32_2744
  let v2330 : BitVec 32 := Scalar.addi c0_i32_2745 v2329
  v2330.toNat
def k0_dev44 (d0 : Dev nD) : Nat :=
  let c0_i32_2812 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2811 : BitVec 32 := 1#32
  let v2383 : BitVec 32 := Scalar.muli v5 c1_i32_2811
  let v2384 : BitVec 32 := Scalar.addi c0_i32_2812 v2383
  v2384.toNat
def k0_dev45 (d0 : Dev nD) : Nat :=
  let c0_i32_2881 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2880 : BitVec 32 := 1#32
  let v2439 : BitVec 32 := Scalar.muli v7 c1_i32_2880
  let v2440 : BitVec 32 := Scalar.addi c0_i32_2881 v2439
  v2440.toNat
def k0_dev46 (d0 : Dev nD) : Nat :=
  let c0_i32_2948 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2947 : BitVec 32 := 1#32
  let v2493 : BitVec 32 := Scalar.muli v5 c1_i32_2947
  let v2494 : BitVec 32 := Scalar.addi c0_i32_2948 v2493
  v2494.toNat
def k0_dev47 (d0 : Dev nD) : Nat :=
  let c0_i32_3033 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3032 : BitVec 32 := 1#32
  let v2570 : BitVec 32 := Scalar.muli v7 c1_i32_3032
  let v2571 : BitVec 32 := Scalar.addi c0_i32_3033 v2570
  v2571.toNat
def k0_dev48 (d0 : Dev nD) : Nat :=
  let c0_i32_3100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3099 : BitVec 32 := 1#32
  let v2624 : BitVec 32 := Scalar.muli v5 c1_i32_3099
  let v2625 : BitVec 32 := Scalar.addi c0_i32_3100 v2624
  v2625.toNat
def k0_dev49 (d0 : Dev nD) : Nat :=
  let c0_i32_3169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3168 : BitVec 32 := 1#32
  let v2680 : BitVec 32 := Scalar.muli v7 c1_i32_3168
  let v2681 : BitVec 32 := Scalar.addi c0_i32_3169 v2680
  v2681.toNat
def k0_dev50 (d0 : Dev nD) : Nat :=
  let c0_i32_3236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3235 : BitVec 32 := 1#32
  let v2734 : BitVec 32 := Scalar.muli v5 c1_i32_3235
  let v2735 : BitVec 32 := Scalar.addi c0_i32_3236 v2734
  v2735.toNat
def k0_dev51 (d0 : Dev nD) : Nat :=
  let c0_i32_3321 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3320 : BitVec 32 := 1#32
  let v2811 : BitVec 32 := Scalar.muli v7 c1_i32_3320
  let v2812 : BitVec 32 := Scalar.addi c0_i32_3321 v2811
  v2812.toNat
def k0_dev52 (d0 : Dev nD) : Nat :=
  let c0_i32_3388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3387 : BitVec 32 := 1#32
  let v2865 : BitVec 32 := Scalar.muli v5 c1_i32_3387
  let v2866 : BitVec 32 := Scalar.addi c0_i32_3388 v2865
  v2866.toNat
def k0_dev53 (d0 : Dev nD) : Nat :=
  let c0_i32_3457 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3456 : BitVec 32 := 1#32
  let v2921 : BitVec 32 := Scalar.muli v7 c1_i32_3456
  let v2922 : BitVec 32 := Scalar.addi c0_i32_3457 v2921
  v2922.toNat
def k0_dev54 (d0 : Dev nD) : Nat :=
  let c0_i32_3524 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3523 : BitVec 32 := 1#32
  let v2975 : BitVec 32 := Scalar.muli v5 c1_i32_3523
  let v2976 : BitVec 32 := Scalar.addi c0_i32_3524 v2975
  v2976.toNat
def k0_dev55 (d0 : Dev nD) : Nat :=
  let c0_i32_3609 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3608 : BitVec 32 := 1#32
  let v3052 : BitVec 32 := Scalar.muli v7 c1_i32_3608
  let v3053 : BitVec 32 := Scalar.addi c0_i32_3609 v3052
  v3053.toNat
def k0_dev56 (d0 : Dev nD) : Nat :=
  let c0_i32_3676 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3675 : BitVec 32 := 1#32
  let v3106 : BitVec 32 := Scalar.muli v5 c1_i32_3675
  let v3107 : BitVec 32 := Scalar.addi c0_i32_3676 v3106
  v3107.toNat
def k0_dev57 (d0 : Dev nD) : Nat :=
  let c0_i32_3745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3744 : BitVec 32 := 1#32
  let v3162 : BitVec 32 := Scalar.muli v7 c1_i32_3744
  let v3163 : BitVec 32 := Scalar.addi c0_i32_3745 v3162
  v3163.toNat
def k0_dev58 (d0 : Dev nD) : Nat :=
  let c0_i32_3812 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3811 : BitVec 32 := 1#32
  let v3216 : BitVec 32 := Scalar.muli v5 c1_i32_3811
  let v3217 : BitVec 32 := Scalar.addi c0_i32_3812 v3216
  v3217.toNat
def k0_dev59 (d0 : Dev nD) : Nat :=
  let c0_i32_3897 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3896 : BitVec 32 := 1#32
  let v3293 : BitVec 32 := Scalar.muli v7 c1_i32_3896
  let v3294 : BitVec 32 := Scalar.addi c0_i32_3897 v3293
  v3294.toNat
def k0_dev60 (d0 : Dev nD) : Nat :=
  let c0_i32_3964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3963 : BitVec 32 := 1#32
  let v3347 : BitVec 32 := Scalar.muli v5 c1_i32_3963
  let v3348 : BitVec 32 := Scalar.addi c0_i32_3964 v3347
  v3348.toNat
def k0_dev61 (d0 : Dev nD) : Nat :=
  let c0_i32_4033 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4032 : BitVec 32 := 1#32
  let v3403 : BitVec 32 := Scalar.muli v7 c1_i32_4032
  let v3404 : BitVec 32 := Scalar.addi c0_i32_4033 v3403
  v3404.toNat
def k0_dev62 (d0 : Dev nD) : Nat :=
  let c0_i32_4100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4099 : BitVec 32 := 1#32
  let v3457 : BitVec 32 := Scalar.muli v5 c1_i32_4099
  let v3458 : BitVec 32 := Scalar.addi c0_i32_4100 v3457
  v3458.toNat
def k0_dev63 (d0 : Dev nD) : Nat :=
  let c0_i32_4190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4189 : BitVec 32 := 1#32
  let v3547 : BitVec 32 := Scalar.muli v7 c1_i32_4189
  let v3548 : BitVec 32 := Scalar.addi c0_i32_4190 v3547
  v3548.toNat
def k0_dev64 (d0 : Dev nD) : Nat :=
  let c0_i32_4261 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4260 : BitVec 32 := 1#32
  let v3614 : BitVec 32 := Scalar.muli v5 c1_i32_4260
  let v3615 : BitVec 32 := Scalar.addi c0_i32_4261 v3614
  v3615.toNat
def k0_dev65 (d0 : Dev nD) : Nat :=
  let c0_i32_4334 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4333 : BitVec 32 := 1#32
  let v3683 : BitVec 32 := Scalar.muli v7 c1_i32_4333
  let v3684 : BitVec 32 := Scalar.addi c0_i32_4334 v3683
  v3684.toNat
def k0_dev66 (d0 : Dev nD) : Nat :=
  let c0_i32_4405 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4404 : BitVec 32 := 1#32
  let v3750 : BitVec 32 := Scalar.muli v5 c1_i32_4404
  let v3751 : BitVec 32 := Scalar.addi c0_i32_4405 v3750
  v3751.toNat
def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_4409 : BitVec 32 := 512#32
  let v3759 : BitVec 32 := Scalar.muli v2 c512_i32_4409
  let c0_i32_4412 : BitVec 32 := 0#32
  ![v3759.toNat, 0]
def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_4415 : BitVec 32 := 512#32
  let v3765 : BitVec 32 := Scalar.muli v2 c512_i32_4415
  let c2048_i32_4418 : BitVec 32 := 2048#32
  ![v3765.toNat, 2048]
def k0_dev67 (d0 : Dev nD) : Nat :=
  let c0_i32_4449 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4448 : BitVec 32 := 1#32
  let v3787 : BitVec 32 := Scalar.muli v7 c1_i32_4448
  let v3788 : BitVec 32 := Scalar.addi c0_i32_4449 v3787
  v3788.toNat
def k0_dev68 (d0 : Dev nD) : Nat :=
  let c0_i32_4479 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4478 : BitVec 32 := 1#32
  let v3810 : BitVec 32 := Scalar.muli v5 c1_i32_4478
  let v3811 : BitVec 32 := Scalar.addi c0_i32_4479 v3810
  v3811.toNat
def k0_dev69 (d0 : Dev nD) : Nat :=
  let c0_i32_4510 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4509 : BitVec 32 := 1#32
  let v3834 : BitVec 32 := Scalar.muli v7 c1_i32_4509
  let v3835 : BitVec 32 := Scalar.addi c0_i32_4510 v3834
  v3835.toNat
def k0_dev70 (d0 : Dev nD) : Nat :=
  let c0_i32_4540 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4539 : BitVec 32 := 1#32
  let v3857 : BitVec 32 := Scalar.muli v5 c1_i32_4539
  let v3858 : BitVec 32 := Scalar.addi c0_i32_4540 v3857
  v3858.toNat
def k0_dev71 (d0 : Dev nD) : Nat :=
  let c0_i32_4568 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4567 : BitVec 32 := 1#32
  let v3880 : BitVec 32 := Scalar.muli v7 c1_i32_4567
  let v3881 : BitVec 32 := Scalar.addi c0_i32_4568 v3880
  v3881.toNat
def k0_dev72 (d0 : Dev nD) : Nat :=
  let c0_i32_4596 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4595 : BitVec 32 := 1#32
  let v3902 : BitVec 32 := Scalar.muli v5 c1_i32_4595
  let v3903 : BitVec 32 := Scalar.addi c0_i32_4596 v3902
  v3903.toNat
def k0_dev73 (d0 : Dev nD) : Nat :=
  let c0_i32_4625 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4624 : BitVec 32 := 1#32
  let v3925 : BitVec 32 := Scalar.muli v7 c1_i32_4624
  let v3926 : BitVec 32 := Scalar.addi c0_i32_4625 v3925
  v3926.toNat
def k0_dev74 (d0 : Dev nD) : Nat :=
  let c0_i32_4653 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4652 : BitVec 32 := 1#32
  let v3947 : BitVec 32 := Scalar.muli v5 c1_i32_4652
  let v3948 : BitVec 32 := Scalar.addi c0_i32_4653 v3947
  v3948.toNat
def k0_dev75 (d0 : Dev nD) : Nat :=
  let c0_i32_4679 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4678 : BitVec 32 := 1#32
  let v3969 : BitVec 32 := Scalar.muli v7 c1_i32_4678
  let v3970 : BitVec 32 := Scalar.addi c0_i32_4679 v3969
  v3970.toNat
def k0_dev76 (d0 : Dev nD) : Nat :=
  let c0_i32_4705 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4704 : BitVec 32 := 1#32
  let v3990 : BitVec 32 := Scalar.muli v5 c1_i32_4704
  let v3991 : BitVec 32 := Scalar.addi c0_i32_4705 v3990
  v3991.toNat
def k0_dev77 (d0 : Dev nD) : Nat :=
  let c0_i32_4732 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4731 : BitVec 32 := 1#32
  let v4012 : BitVec 32 := Scalar.muli v7 c1_i32_4731
  let v4013 : BitVec 32 := Scalar.addi c0_i32_4732 v4012
  v4013.toNat
def k0_dev78 (d0 : Dev nD) : Nat :=
  let c0_i32_4758 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4757 : BitVec 32 := 1#32
  let v4033 : BitVec 32 := Scalar.muli v5 c1_i32_4757
  let v4034 : BitVec 32 := Scalar.addi c0_i32_4758 v4033
  v4034.toNat
def k0_dev79 (d0 : Dev nD) : Nat :=
  let c0_i32_4784 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4783 : BitVec 32 := 1#32
  let v4055 : BitVec 32 := Scalar.muli v7 c1_i32_4783
  let v4056 : BitVec 32 := Scalar.addi c0_i32_4784 v4055
  v4056.toNat
def k0_dev80 (d0 : Dev nD) : Nat :=
  let c0_i32_4810 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4809 : BitVec 32 := 1#32
  let v4076 : BitVec 32 := Scalar.muli v5 c1_i32_4809
  let v4077 : BitVec 32 := Scalar.addi c0_i32_4810 v4076
  v4077.toNat
def k0_dev81 (d0 : Dev nD) : Nat :=
  let c0_i32_4837 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4836 : BitVec 32 := 1#32
  let v4098 : BitVec 32 := Scalar.muli v7 c1_i32_4836
  let v4099 : BitVec 32 := Scalar.addi c0_i32_4837 v4098
  v4099.toNat
def k0_dev82 (d0 : Dev nD) : Nat :=
  let c0_i32_4863 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4862 : BitVec 32 := 1#32
  let v4119 : BitVec 32 := Scalar.muli v5 c1_i32_4862
  let v4120 : BitVec 32 := Scalar.addi c0_i32_4863 v4119
  v4120.toNat
def k0_dev83 (d0 : Dev nD) : Nat :=
  let c0_i32_4889 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4888 : BitVec 32 := 1#32
  let v4141 : BitVec 32 := Scalar.muli v7 c1_i32_4888
  let v4142 : BitVec 32 := Scalar.addi c0_i32_4889 v4141
  v4142.toNat
def k0_dev84 (d0 : Dev nD) : Nat :=
  let c0_i32_4915 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4914 : BitVec 32 := 1#32
  let v4162 : BitVec 32 := Scalar.muli v5 c1_i32_4914
  let v4163 : BitVec 32 := Scalar.addi c0_i32_4915 v4162
  v4163.toNat
def k0_dev85 (d0 : Dev nD) : Nat :=
  let c0_i32_4942 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4941 : BitVec 32 := 1#32
  let v4184 : BitVec 32 := Scalar.muli v7 c1_i32_4941
  let v4185 : BitVec 32 := Scalar.addi c0_i32_4942 v4184
  v4185.toNat
def k0_dev86 (d0 : Dev nD) : Nat :=
  let c0_i32_4968 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4967 : BitVec 32 := 1#32
  let v4205 : BitVec 32 := Scalar.muli v5 c1_i32_4967
  let v4206 : BitVec 32 := Scalar.addi c0_i32_4968 v4205
  v4206.toNat
def k0_dev87 (d0 : Dev nD) : Nat :=
  let c0_i32_4994 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4993 : BitVec 32 := 1#32
  let v4227 : BitVec 32 := Scalar.muli v7 c1_i32_4993
  let v4228 : BitVec 32 := Scalar.addi c0_i32_4994 v4227
  v4228.toNat
def k0_dev88 (d0 : Dev nD) : Nat :=
  let c0_i32_5020 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5019 : BitVec 32 := 1#32
  let v4248 : BitVec 32 := Scalar.muli v5 c1_i32_5019
  let v4249 : BitVec 32 := Scalar.addi c0_i32_5020 v4248
  v4249.toNat
def k0_dev89 (d0 : Dev nD) : Nat :=
  let c0_i32_5047 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5046 : BitVec 32 := 1#32
  let v4270 : BitVec 32 := Scalar.muli v7 c1_i32_5046
  let v4271 : BitVec 32 := Scalar.addi c0_i32_5047 v4270
  v4271.toNat
def k0_dev90 (d0 : Dev nD) : Nat :=
  let c0_i32_5073 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5072 : BitVec 32 := 1#32
  let v4291 : BitVec 32 := Scalar.muli v5 c1_i32_5072
  let v4292 : BitVec 32 := Scalar.addi c0_i32_5073 v4291
  v4292.toNat
def k0_dev91 (d0 : Dev nD) : Nat :=
  let c0_i32_5099 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5098 : BitVec 32 := 1#32
  let v4313 : BitVec 32 := Scalar.muli v7 c1_i32_5098
  let v4314 : BitVec 32 := Scalar.addi c0_i32_5099 v4313
  v4314.toNat
def k0_dev92 (d0 : Dev nD) : Nat :=
  let c0_i32_5125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5124 : BitVec 32 := 1#32
  let v4334 : BitVec 32 := Scalar.muli v5 c1_i32_5124
  let v4335 : BitVec 32 := Scalar.addi c0_i32_5125 v4334
  v4335.toNat
def k0_dev93 (d0 : Dev nD) : Nat :=
  let c0_i32_5152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5151 : BitVec 32 := 1#32
  let v4356 : BitVec 32 := Scalar.muli v7 c1_i32_5151
  let v4357 : BitVec 32 := Scalar.addi c0_i32_5152 v4356
  v4357.toNat
def k0_dev94 (d0 : Dev nD) : Nat :=
  let c0_i32_5178 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5177 : BitVec 32 := 1#32
  let v4377 : BitVec 32 := Scalar.muli v5 c1_i32_5177
  let v4378 : BitVec 32 := Scalar.addi c0_i32_5178 v4377
  v4378.toNat
def k0_dev95 (d0 : Dev nD) : Nat :=
  let c0_i32_5204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5203 : BitVec 32 := 1#32
  let v4399 : BitVec 32 := Scalar.muli v7 c1_i32_5203
  let v4400 : BitVec 32 := Scalar.addi c0_i32_5204 v4399
  v4400.toNat
def k0_dev96 (d0 : Dev nD) : Nat :=
  let c0_i32_5230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5229 : BitVec 32 := 1#32
  let v4420 : BitVec 32 := Scalar.muli v5 c1_i32_5229
  let v4421 : BitVec 32 := Scalar.addi c0_i32_5230 v4420
  v4421.toNat
def k0_dev97 (d0 : Dev nD) : Nat :=
  let c0_i32_5257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5256 : BitVec 32 := 1#32
  let v4442 : BitVec 32 := Scalar.muli v7 c1_i32_5256
  let v4443 : BitVec 32 := Scalar.addi c0_i32_5257 v4442
  v4443.toNat
def k0_dev98 (d0 : Dev nD) : Nat :=
  let c0_i32_5283 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5282 : BitVec 32 := 1#32
  let v4463 : BitVec 32 := Scalar.muli v5 c1_i32_5282
  let v4464 : BitVec 32 := Scalar.addi c0_i32_5283 v4463
  v4464.toNat
def k0_dev99 (d0 : Dev nD) : Nat :=
  let c0_i32_5309 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5308 : BitVec 32 := 1#32
  let v4485 : BitVec 32 := Scalar.muli v7 c1_i32_5308
  let v4486 : BitVec 32 := Scalar.addi c0_i32_5309 v4485
  v4486.toNat
def k0_dev100 (d0 : Dev nD) : Nat :=
  let c0_i32_5335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5334 : BitVec 32 := 1#32
  let v4506 : BitVec 32 := Scalar.muli v5 c1_i32_5334
  let v4507 : BitVec 32 := Scalar.addi c0_i32_5335 v4506
  v4507.toNat
def k0_dev101 (d0 : Dev nD) : Nat :=
  let c0_i32_5362 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5361 : BitVec 32 := 1#32
  let v4528 : BitVec 32 := Scalar.muli v7 c1_i32_5361
  let v4529 : BitVec 32 := Scalar.addi c0_i32_5362 v4528
  v4529.toNat
def k0_dev102 (d0 : Dev nD) : Nat :=
  let c0_i32_5388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5387 : BitVec 32 := 1#32
  let v4549 : BitVec 32 := Scalar.muli v5 c1_i32_5387
  let v4550 : BitVec 32 := Scalar.addi c0_i32_5388 v4549
  v4550.toNat
def k0_dev103 (d0 : Dev nD) : Nat :=
  let c0_i32_5414 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5413 : BitVec 32 := 1#32
  let v4571 : BitVec 32 := Scalar.muli v7 c1_i32_5413
  let v4572 : BitVec 32 := Scalar.addi c0_i32_5414 v4571
  v4572.toNat
def k0_dev104 (d0 : Dev nD) : Nat :=
  let c0_i32_5440 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5439 : BitVec 32 := 1#32
  let v4592 : BitVec 32 := Scalar.muli v5 c1_i32_5439
  let v4593 : BitVec 32 := Scalar.addi c0_i32_5440 v4592
  v4593.toNat
def k0_dev105 (d0 : Dev nD) : Nat :=
  let c0_i32_5467 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5466 : BitVec 32 := 1#32
  let v4614 : BitVec 32 := Scalar.muli v7 c1_i32_5466
  let v4615 : BitVec 32 := Scalar.addi c0_i32_5467 v4614
  v4615.toNat
def k0_dev106 (d0 : Dev nD) : Nat :=
  let c0_i32_5493 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5492 : BitVec 32 := 1#32
  let v4635 : BitVec 32 := Scalar.muli v5 c1_i32_5492
  let v4636 : BitVec 32 := Scalar.addi c0_i32_5493 v4635
  v4636.toNat
def k0_dev107 (d0 : Dev nD) : Nat :=
  let c0_i32_5519 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5518 : BitVec 32 := 1#32
  let v4657 : BitVec 32 := Scalar.muli v7 c1_i32_5518
  let v4658 : BitVec 32 := Scalar.addi c0_i32_5519 v4657
  v4658.toNat
def k0_dev108 (d0 : Dev nD) : Nat :=
  let c0_i32_5545 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5544 : BitVec 32 := 1#32
  let v4678 : BitVec 32 := Scalar.muli v5 c1_i32_5544
  let v4679 : BitVec 32 := Scalar.addi c0_i32_5545 v4678
  v4679.toNat
def k0_dev109 (d0 : Dev nD) : Nat :=
  let c0_i32_5572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5571 : BitVec 32 := 1#32
  let v4700 : BitVec 32 := Scalar.muli v7 c1_i32_5571
  let v4701 : BitVec 32 := Scalar.addi c0_i32_5572 v4700
  v4701.toNat
def k0_dev110 (d0 : Dev nD) : Nat :=
  let c0_i32_5598 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5597 : BitVec 32 := 1#32
  let v4721 : BitVec 32 := Scalar.muli v5 c1_i32_5597
  let v4722 : BitVec 32 := Scalar.addi c0_i32_5598 v4721
  v4722.toNat
def k0_dev111 (d0 : Dev nD) : Nat :=
  let c0_i32_5624 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5623 : BitVec 32 := 1#32
  let v4743 : BitVec 32 := Scalar.muli v7 c1_i32_5623
  let v4744 : BitVec 32 := Scalar.addi c0_i32_5624 v4743
  v4744.toNat
def k0_dev112 (d0 : Dev nD) : Nat :=
  let c0_i32_5650 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5649 : BitVec 32 := 1#32
  let v4764 : BitVec 32 := Scalar.muli v5 c1_i32_5649
  let v4765 : BitVec 32 := Scalar.addi c0_i32_5650 v4764
  v4765.toNat
def k0_dev113 (d0 : Dev nD) : Nat :=
  let c0_i32_5677 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5676 : BitVec 32 := 1#32
  let v4786 : BitVec 32 := Scalar.muli v7 c1_i32_5676
  let v4787 : BitVec 32 := Scalar.addi c0_i32_5677 v4786
  v4787.toNat
def k0_dev114 (d0 : Dev nD) : Nat :=
  let c0_i32_5703 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5702 : BitVec 32 := 1#32
  let v4807 : BitVec 32 := Scalar.muli v5 c1_i32_5702
  let v4808 : BitVec 32 := Scalar.addi c0_i32_5703 v4807
  v4808.toNat
def k0_dev115 (d0 : Dev nD) : Nat :=
  let c0_i32_5729 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5728 : BitVec 32 := 1#32
  let v4829 : BitVec 32 := Scalar.muli v7 c1_i32_5728
  let v4830 : BitVec 32 := Scalar.addi c0_i32_5729 v4829
  v4830.toNat
def k0_dev116 (d0 : Dev nD) : Nat :=
  let c0_i32_5755 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5754 : BitVec 32 := 1#32
  let v4850 : BitVec 32 := Scalar.muli v5 c1_i32_5754
  let v4851 : BitVec 32 := Scalar.addi c0_i32_5755 v4850
  v4851.toNat
def k0_dev117 (d0 : Dev nD) : Nat :=
  let c0_i32_5782 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5781 : BitVec 32 := 1#32
  let v4872 : BitVec 32 := Scalar.muli v7 c1_i32_5781
  let v4873 : BitVec 32 := Scalar.addi c0_i32_5782 v4872
  v4873.toNat
def k0_dev118 (d0 : Dev nD) : Nat :=
  let c0_i32_5808 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5807 : BitVec 32 := 1#32
  let v4893 : BitVec 32 := Scalar.muli v5 c1_i32_5807
  let v4894 : BitVec 32 := Scalar.addi c0_i32_5808 v4893
  v4894.toNat
def k0_dev119 (d0 : Dev nD) : Nat :=
  let c0_i32_5834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5833 : BitVec 32 := 1#32
  let v4915 : BitVec 32 := Scalar.muli v7 c1_i32_5833
  let v4916 : BitVec 32 := Scalar.addi c0_i32_5834 v4915
  v4916.toNat
def k0_dev120 (d0 : Dev nD) : Nat :=
  let c0_i32_5860 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5859 : BitVec 32 := 1#32
  let v4936 : BitVec 32 := Scalar.muli v5 c1_i32_5859
  let v4937 : BitVec 32 := Scalar.addi c0_i32_5860 v4936
  v4937.toNat
def k0_dev121 (d0 : Dev nD) : Nat :=
  let c0_i32_5887 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5886 : BitVec 32 := 1#32
  let v4958 : BitVec 32 := Scalar.muli v7 c1_i32_5886
  let v4959 : BitVec 32 := Scalar.addi c0_i32_5887 v4958
  v4959.toNat
def k0_dev122 (d0 : Dev nD) : Nat :=
  let c0_i32_5913 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5912 : BitVec 32 := 1#32
  let v4979 : BitVec 32 := Scalar.muli v5 c1_i32_5912
  let v4980 : BitVec 32 := Scalar.addi c0_i32_5913 v4979
  v4980.toNat
abbrev stage0_0 : Fin 1 → Memref sig .tc .vmem S8192x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Prog.lean ====
/-
The kernel's body as a program over a symbolic hop.

The printed body is one straight line of some 1300 memory operations, cut into parts. Here the same operations are
written once per KIND of hop, each piece in continuation-passing form over the hop's number: a reduce-scatter step,
an all-gather step, the two dots at the head of an iteration, the entry and the exit. `body_eq` says the printed body
is that program.
-/
module

public import proofs.«01_k».proof.Proof.Gen.KernelIdeal.Skeleton
public import proofs.«01_k».proof.Proof.Gen.KernelIdeal.Launch
public import proofs.«01_k».proof.Proof.Gen.KernelIdeal.Points

@[expose] public section

set_option synthInstance.maxSize 4096

noncomputable section

namespace Cert.KernelIdeal.Ring

open Cert.KernelIdeal Cert.KernelIdeal.Gen
open Idealize.ShloMosaic Idealize.ShloMosaic.TcCoe Idealize.SL.Sem

variable {F : FTy → Type} [FloatOps F]

/-- Programs of the kernel's TensorCore. -/
abbrev KProg (F : FTy → Type) [FloatOps F] : Type 1 := Prog (TpuEff nD τ sig (Elt F) Λ₀ .tc) PUnit

/-! ## The buffers and the semaphores -/

abbrev xM : Memref sig .tc .vmem S8192x512 .f32 := Memref.whole cc0_stg0_0
abbrev wM : Memref sig .tc .vmem S512x4096 .f32 := Memref.whole cc0_stg1_0
/-- The output, whose rows are also where every hop lands. -/
abbrev oM : Memref sig .tc .hbm S8192x4096 .f32 := Memref.whole main_v1_0
/-- The running sums of direction `d` in HBM, two slots: what the reduce-scatter hops send. -/
abbrev sumM (d : Bool) : Memref sig .tc .hbm S2x512x2048 .f32 := match d with | false => Memref.whole main_v1_1 | true => Memref.whole main_v1_2
/-- The running sums of direction `d` in VMEM, two slots: where they are computed. -/
abbrev accM (d : Bool) : Memref sig .tc .vmem S2x512x2048 .f32 := match d with | false => Memref.whole cc0_scratch0 | true => Memref.whole cc0_scratch1
/-- Where a landed block is staged to be added. -/
abbrev tmpM (d : Bool) : Memref sig .tc .vmem S512x2048 .f32 := match d with | false => Memref.whole cc0_scratch2 | true => Memref.whole cc0_scratch3

abbrev sendA (d : Bool) : DmaSems sig S2x2 := match d with | false => cc0_scratch4 | true => cc0_scratch6
abbrev recvA (d : Bool) : DmaSems sig S30x2 := match d with | false => cc0_scratch5 | true => cc0_scratch7

theorem inb2x2 : ∀ (a b : Fin 2) (x), (![a.val, b.val] : Fin 2 → ℕ) x + S1x1.size x ≤ S2x2.size x := by decide
theorem inb30x2 : ∀ (j : Fin 30) (b : Fin 2) (x), (![j.val, b.val] : Fin 2 → ℕ) x + S1x1.size x ≤ S30x2.size x := by decide
theorem inb2 : ∀ (a : Fin 2) (x), (![a.val] : Fin 1 → ℕ) x + S1.size x ≤ S2.size x := by decide
theorem inbSlot : ∀ (b s : Fin 2) (x), (![b.val, 0, 1024 * s.val] : Fin 3 → ℕ) x + S1x512x1024.size x ≤ S2x512x2048.size x := by decide
theorem inbTmp : ∀ (s : Fin 2) (x), (![0, 1024 * s.val] : Fin 2 → ℕ) x + S512x1024.size x ≤ S512x2048.size x := by decide
theorem inbWide : ∀ (b : Fin 2) (x), (![b.val, 0, 0] : Fin 3 → ℕ) x + S1x512x2048.size x ≤ S2x512x2048.size x := by decide

/-- The two words of `DmaSem` a `[2, 2]` array holds at `(a, b)`, and so on. -/
abbrev sem22 (A : DmaSems sig S2x2) (a b : Fin 2) : DmaSem sig :=
  ((A.slice (Rect.unit (s := S2x2) ![a.val, b.val] S1x1.size (inb2x2 a b))).squeeze S_ squeezes_S1x1_S_).sem
abbrev sem302 (A : DmaSems sig S30x2) (j : Fin 30) (b : Fin 2) : DmaSem sig :=
  ((A.slice (Rect.unit (s := S30x2) ![j.val, b.val] S1x1.size (inb30x2 j b))).squeeze S_ squeezes_S1x1_S_).sem
abbrev sem2 (A : DmaSems sig S2) (a : Fin 2) : DmaSem sig :=
  ((A.slice (Rect.unit (s := S2) ![a.val] S1.size (inb2 a))).squeeze S_ squeezes_S1_S_).sem

/-- The parity of a hop: which slot and which send semaphore it uses. -/
abbrev par (j : ℕ) : Fin 2 := Fin.ofNat 2 j

abbrev sendSem (d : Bool) (s : Fin 2) (j : ℕ) : DmaSem sig := sem22 (sendA d) (par j) s
abbrev recvSem (d : Bool) (s : Fin 2) (j : ℕ) : DmaSem sig := sem302 (recvA d) (Fin.ofNat 30 j) s
/-- The semaphores of the local copies: `fetchSem` of a landed block into VMEM, `stageSem` of a sum into HBM. -/
abbrev fetchSem (d : Bool) : DmaSem sig := match d with | false => sem22 cc0_scratch9 0 0 | true => sem22 cc0_scratch9 1 0
abbrev stageSem (d : Bool) : DmaSem sig := match d with | false => sem22 cc0_scratch9 0 1 | true => sem22 cc0_scratch9 1 1
abbrev copySem (d : Bool) : DmaSem sig := match d with | false => sem2 cc0_scratch8 0 | true => sem2 cc0_scratch8 1
abbrev barSem : Sem sig := (SemArray.scalar (sig.barrier 0 rfl) : Sems sig S_).sem

/-! ## The blocks -/

/-- The output's 512 x 1024 block at an offset. -/
abbrev oAt (off : Fin 2 → ℕ) (h : ∀ a, off a + S512x1024.size a ≤ S8192x4096.size a) : Memref sig .tc .hbm S512x1024 .f32 :=
  oM.slice (Rect.unit (s := S8192x4096) off S512x1024.size h) (fun _ => rfl)

/-- The block sent (and written on the neighbour) at displacement `r`. -/
abbrev sendBlk (d : Bool) (s : Fin 2) (c : Dev nD) (r : ℕ) : Memref sig .tc .hbm S512x1024 .f32 :=
  match d, s with
  | false, 0 => oAt (k0_off3 c (BitVec.ofNat 32 (Fin.ofNat 16 r).val)) (k0_off3_inb c (Fin.ofNat 16 r))
  | true, 0 => oAt (k0_off4 c (BitVec.ofNat 32 (Fin.ofNat 16 r).val)) (k0_off4_inb c (Fin.ofNat 16 r))
  | false, 1 => oAt (k0_off5 c (BitVec.ofNat 32 (Fin.ofNat 16 r).val)) (k0_off5_inb c (Fin.ofNat 16 r))
  | true, 1 => oAt (k0_off6 c (BitVec.ofNat 32 (Fin.ofNat 16 r).val)) (k0_off6_inb c (Fin.ofNat 16 r))

/-- The block a reduce-scatter hop `i` landed in, as iteration `i` reads it. -/
abbrev landBlk (d : Bool) (s : Fin 2) (c : Dev nD) (i : ℕ) : Memref sig .tc .hbm S512x1024 .f32 :=
  match d, s with
  | false, 0 => oAt (k0_off9 c (BitVec.ofNat 32 (Fin.ofNat 15 i).val)) (k0_off9_inb c (Fin.ofNat 15 i))
  | true, 0 => oAt (k0_off10 c (BitVec.ofNat 32 (Fin.ofNat 15 i).val)) (k0_off10_inb c (Fin.ofNat 15 i))
  | false, 1 => oAt (k0_off11 c (BitVec.ofNat 32 (Fin.ofNat 15 i).val)) (k0_off11_inb c (Fin.ofNat 15 i))
  | true, 1 => oAt (k0_off12 c (BitVec.ofNat 32 (Fin.ofNat 15 i).val)) (k0_off12_inb c (Fin.ofNat 15 i))

abbrev slotR (b s : Fin 2) : Rect S2x512x2048 := Rect.unit (s := S2x512x2048) ![b.val, 0, 1024 * s.val] S1x512x1024.size (inbSlot b s)
abbrev wideR (b : Fin 2) : Rect S2x512x2048 := Rect.unit (s := S2x512x2048) ![b.val, 0, 0] S1x512x2048.size (inbWide b)
abbrev tmpR (s : Fin 2) : Rect S512x2048 := Rect.unit (s := S512x2048) ![0, 1024 * s.val] S512x1024.size (inbTmp s)

abbrev slotV {sp : Space} (m : Memref sig .tc sp S2x512x2048 .f32) (b s : Fin 2) : Memref sig .tc sp S512x1024 .f32 :=
  (m.slice (slotR b s) (fun _ => rfl)).squeeze S512x1024 squeezes_S1x512x1024_S512x1024
abbrev wideV {sp : Space} (m : Memref sig .tc sp S2x512x2048 .f32) (b : Fin 2) : Memref sig .tc sp S512x2048 .f32 :=
  (m.slice (wideR b) (fun _ => rfl)).squeeze S512x2048 squeezes_S1x512x2048_S512x2048
abbrev tmpV (d : Bool) (s : Fin 2) : Memref sig .tc .vmem S512x1024 .f32 := (tmpM d).slice (tmpR s) (fun _ => rfl)

/-- The output rows of the device's own chunk, one direction's columns. -/
abbrev ownRows (d : Bool) (c : Dev nD) : Memref sig .tc .hbm S512x2048 .f32 :=
  match d with
  | false => oM.slice (Rect.unit (s := S8192x4096) (k0_off13 c) S512x2048.size (k0_off13_inb c)) (fun _ => rfl)
  | true => oM.slice (Rect.unit (s := S8192x4096) (k0_off14 c) S512x2048.size (k0_off14_inb c)) (fun _ => rfl)

/-- The neighbour direction `d` sends to. -/
abbrev toDev (d : Bool) (c : Dev nD) : Dev nD := match d with | false => ⟨k0_dev3 c, k0_dev3_lt c⟩ | true => ⟨k0_dev4 c, k0_dev4_lt c⟩

/-! ## The values -/

/-- One device's partial product: a row block of its activations against half of its weights. -/
def dotP (a : Vec F S512x512 .f32) (b : Vec F S512x2048 .f32) : FVec F S512x2048 .f32 :=
  matmul dot_S512x512_S512x2048_S512x2048_1_0_0_1_n_n none (shapeCast S512x512 a shapeCasts_S512x512_S512x512)
    (shapeCast S512x2048 b shapeCasts_S512x2048_S512x2048) (constant S512x2048 .f32 0x00000000#32)

/-- Half `s` of a partial product. -/
def halfP (s : Fin 2) (p : FVec F S512x2048 .f32) : FVec F S512x1024 .f32 :=
  match s with
  | 0 => extractStridedSlice S512x1024 ![0, 0] p slices_S512x2048_o0_0_S512x1024
  | 1 => extractStridedSlice S512x1024 ![0, 1024] p slices_S512x2048_o0_1024_S512x1024

/-- The activation of a 512 x 1024 block. -/
def actB (y : FVec F S512x1024 .f32) : FVec F S512x1024 .f32 :=
  mulf (mulf (broadcast S512x1024 (Scalar.ofBits .f32 0x3F000000#32)) y)
    (addf (broadcast S512x1024 (Scalar.ofBits .f32 0x3F800000#32))
      (tanh (mulf (broadcast S512x1024 (Scalar.ofBits .f32 0x3F4C422A#32))
        (addf y (mulf (mulf (mulf (broadcast S512x1024 (Scalar.ofBits .f32 0x3D372713#32)) y) y) y)))))

/-- What iteration `i` makes of the landed block `v` and its own partial product `p`. -/
def accB (i : ℕ) (s : Fin 2) (p : FVec F S512x2048 .f32) (v : Vec F S512x1024 .f32) : FVec F S512x1024 .f32 :=
  match i with
  | 14 => actB (addf v (halfP s p))
  | _ => addf v (halfP s p)

/-! ## The pieces -/

/-- A local copy, waited for at once. -/
def copyK {sp sp' : Space} {sh : Shape} (sem : DmaSem sig) (src : Memref sig .tc sp sh .f32) (dst : Memref sig .tc sp' sh .f32)
    (h : (DmaTarget.here (nD := nD) (τ := τ) (p := .tc) dst).Typed sp (.dma sem)) (k : KProg F) : KProg F :=
  .op (.enqueueDma src (.here dst) (.dma sem) (View.wordExact_bits rfl) (View.wordExact_bits rfl) h) fun _ =>
    .op (.waitDma2 sem src dst (View.wordExact_bits rfl) (View.wordExact_bits rfl)) fun _ => k

/-- Send `src` into `dst` on the neighbour direction `d` sends to, as hop `j`. -/
def sendK (d : Bool) (s : Fin 2) (c : Dev nD) (j : ℕ) (src dst : Memref sig .tc .hbm S512x1024 .f32) (k : KProg F) : KProg F :=
  .op (.enqueueDma src (.remote (Dev.tc (toDev d c)) dst (.dma (sendSem d s j))) (.dma (recvSem d s j))
    (View.wordExact_bits rfl) (View.wordExact_bits rfl) ⟨⟨rfl, Or.inl rfl⟩, trivial⟩) fun _ => k

/-- Wait for a transfer into a block like `dst`. -/
def waitK {sh : Shape} (sem : DmaSem sig) (dst : Memref sig .tc .hbm sh .f32) (k : KProg F) : KProg F :=
  .op (.waitDma2 sem dst dst (View.wordExact_bits rfl) (View.wordExact_bits rfl)) fun _ => k

/-- What the wait for the send of hop `j` names as its destination. -/
abbrev sentBlk (d : Bool) (s : Fin 2) (c : Dev nD) (j : ℕ) : Memref sig .tc .hbm S512x1024 .f32 :=
  if j ≤ 15 then slotV (sumM d) (par j) s else sendBlk d s c (j - 15)

/-- The two partial products at the head of an iteration. -/
def dotsK (c : Dev nD) (i : ℕ) (k : FVec F S512x2048 .f32 → FVec F S512x2048 .f32 → KProg F) : KProg F :=
  .op (.load xM (Rect.unit (s := S8192x512) (k0_off7 c (BitVec.ofNat 32 (Fin.ofNat 15 i).val)) S512x512.size (k0_off7_inb c (Fin.ofNat 15 i))).toLoadRect (View.loadsAt_vmem h_S512x512)) fun a =>
  .op (.load wM (Rect.unit (s := S512x4096) ![0, 0] S512x2048.size inb_S512x4096_S512x2048_0_0).toLoadRect (View.loadsAt_vmem h_S512x2048)) fun b =>
  .op (.load xM (Rect.unit (s := S8192x512) (k0_off8 c (BitVec.ofNat 32 (Fin.ofNat 15 i).val)) S512x512.size (k0_off8_inb c (Fin.ofNat 15 i))).toLoadRect (View.loadsAt_vmem h_S512x512)) fun a' =>
  .op (.load wM (Rect.unit (s := S512x4096) ![0, 2048] S512x2048.size inb_S512x4096_S512x2048_0_2048).toLoadRect (View.loadsAt_vmem h_S512x2048)) fun b' =>
  k (dotP a b) (dotP a' b')

/-- Add the landed block to the partial product `p`: into slot `i + 1` of the VMEM sums. -/
def addK (d : Bool) (s : Fin 2) (c : Dev nD) (i : ℕ) (p : FVec F S512x2048 .f32) (k : KProg F) : KProg F :=
  copyK (fetchSem d) (landBlk d s c i) (tmpV d s) ⟨Or.inl rfl, trivial⟩ <|
  .op (.load (tmpM d) (tmpR s).toLoadRect (View.loadsAt_vmem h_S512x1024)) fun v =>
  .op (.load (accM d) (slotR (par (i + 1)) s).toLoadRect (View.loadsAt_vmem h_S1x512x1024)) fun _ =>
  .op (.store (accM d) (slotR (par (i + 1)) s) (shapeCast S1x512x1024 (accB i s p v) shapeCasts_S512x1024_S1x512x1024) Finset.univ
    (View.stores_vmem_bits_univ h_S1x512x1024 rfl) (.inl rfl)) fun _ => k

/-- Stage the sum in slot `i + 1` and send it as hop `i + 1`. -/
def stageSendK (d : Bool) (s : Fin 2) (c : Dev nD) (i : ℕ) (k : KProg F) : KProg F :=
  copyK (stageSem d) (slotV (accM d) (par (i + 1)) s) (slotV (sumM d) (par (i + 1)) s) ⟨Or.inl rfl, trivial⟩ <|
  sendK d s c (i + 1) (slotV (sumM d) (par (i + 1)) s) (sendBlk d s c (i + 2)) k

/-- Reduce-scatter iteration `i` of one block. -/
def rsCellK (d : Bool) (s : Fin 2) (c : Dev nD) (i : ℕ) (p : FVec F S512x2048 .f32) (k : KProg F) : KProg F :=
  waitK (recvSem d s i) (sendBlk d s c (i + 1)) <| addK d s c i p <|
  match i with
  | 0 => stageSendK d s c 0 k
  | i' + 1 => waitK (sendSem d s i') (sentBlk d s c i') <| stageSendK d s c (i' + 1) k

/-- All-gather iteration `i` of one block. -/
def agCellK (d : Bool) (s : Fin 2) (c : Dev nD) (i : ℕ) (k : KProg F) : KProg F :=
  waitK (recvSem d s i) (sendBlk d s c (i + 1)) <|
  waitK (sendSem d s (i - 1)) (sentBlk d s c (i - 1)) <|
  sendK d s c (i + 1) (sendBlk d s c (i + 2)) (sendBlk d s c (i + 2)) k

/-- Reduce-scatter iteration `i`. -/
def rsIterK (c : Dev nD) (i : ℕ) (k : KProg F) : KProg F :=
  dotsK c i fun p p' => rsCellK false 0 c i p <| rsCellK true 0 c i p' <| rsCellK false 1 c i p <| rsCellK true 1 c i p' k

/-- All-gather iteration `i`. -/
def agIterK (c : Dev nD) (i : ℕ) (k : KProg F) : KProg F :=
  agCellK false 0 c i <| agCellK true 0 c i <| agCellK false 1 c i <| agCellK true 1 c i k

/-- `n` iterations from `i` on. -/
def itersK (f : ℕ → KProg F → KProg F) : ℕ → ℕ → KProg F → KProg F
  | 0, _, k => k
  | n + 1, i, k => f i (itersK f n (i + 1) k)

/-- The last receive waits. -/
def lastIterK (c : Dev nD) (k : KProg F) : KProg F :=
  waitK (recvSem false 0 29) (sendBlk false 0 c 14) <| waitK (recvSem true 0 29) (sendBlk true 0 c 14) <|
  waitK (recvSem false 1 29) (sendBlk false 1 c 14) <| waitK (recvSem true 1 29) (sendBlk true 1 c 14) k

/-- Start the copies of the device's own chunk to the output. -/
def ownStartK (d : Bool) (c : Dev nD) (k : KProg F) : KProg F :=
  .op (.enqueueDma (wideV (accM d) 1) (.here (ownRows d c)) (.dma (copySem d)) (View.wordExact_bits rfl) (View.wordExact_bits rfl) ⟨Or.inl rfl, trivial⟩) fun _ => k

/-- The waits for the last two sends of a block. -/
def drainK (d : Bool) (s : Fin 2) (c : Dev nD) (k : KProg F) : KProg F :=
  waitK (sendSem d s 28) (sentBlk d s c 28) <| waitK (sendSem d s 29) (sentBlk d s c 29) k

/-- Compute the first partial product of direction `d` into slot 0. -/
def seedK (d : Bool) (c : Dev nD) (k : KProg F) : KProg F :=
  match d with
  | false =>
    .op (.load xM (Rect.unit (s := S8192x512) (k0_off1 c) S512x512.size (k0_off1_inb c)).toLoadRect (View.loadsAt_vmem h_S512x512)) fun a =>
    .op (.load wM (Rect.unit (s := S512x4096) ![0, 0] S512x2048.size inb_S512x4096_S512x2048_0_0).toLoadRect (View.loadsAt_vmem h_S512x2048)) fun b =>
    .op (.load (accM false) (wideR 0).toLoadRect (View.loadsAt_vmem h_S1x512x2048)) fun _ =>
    .op (.store (accM false) (wideR 0) (shapeCast S1x512x2048 (dotP a b) shapeCasts_S512x2048_S1x512x2048) Finset.univ (View.stores_vmem_bits_univ h_S1x512x2048 rfl) (.inl rfl)) fun _ => k
  | true =>
    .op (.load xM (Rect.unit (s := S8192x512) (k0_off2 c) S512x512.size (k0_off2_inb c)).toLoadRect (View.loadsAt_vmem h_S512x512)) fun a =>
    .op (.load wM (Rect.unit (s := S512x4096) ![0, 2048] S512x2048.size inb_S512x4096_S512x2048_0_2048).toLoadRect (View.loadsAt_vmem h_S512x2048)) fun b =>
    .op (.load (accM true) (wideR 0).toLoadRect (View.loadsAt_vmem h_S1x512x2048)) fun _ =>
    .op (.store (accM true) (wideR 0) (shapeCast S1x512x2048 (dotP a b) shapeCasts_S512x2048_S1x512x2048) Finset.univ (View.stores_vmem_bits_univ h_S1x512x2048 rfl) (.inl rfl)) fun _ => k

/-- The whole body, on device `c`. -/
def bodyK (c : Dev nD) : KProg F :=
  seedK false c <| seedK true c <|
  copyK (stageSem false) (wideV (accM false) 0) (wideV (sumM false) 0) ⟨Or.inl rfl, trivial⟩ <|
  copyK (stageSem true) (wideV (accM true) 0) (wideV (sumM true) 0) ⟨Or.inl rfl, trivial⟩ <|
  .op (.semSignal ((⟨k0_dev1 c, k0_dev1_lt c⟩ : Dev nD), .tc) barSem (1#32).toInt) fun _ =>
  .op (.semSignal ((⟨k0_dev2 c, k0_dev2_lt c⟩ : Dev nD), .tc) barSem (1#32).toInt) fun _ =>
  .op (.semWait barSem (2#32).toInt) fun _ =>
  sendK false 0 c 0 (slotV (sumM false) 0 0) (sendBlk false 0 c 1) <|
  sendK true 0 c 0 (slotV (sumM true) 0 0) (sendBlk true 0 c 1) <|
  sendK false 1 c 0 (slotV (sumM false) 0 1) (sendBlk false 1 c 1) <|
  sendK true 1 c 0 (slotV (sumM true) 0 1) (sendBlk true 1 c 1) <|
  itersK (rsIterK c) 15 0 <|
  ownStartK false c <| ownStartK true c <|
  itersK (agIterK c) 14 15 <|
  lastIterK c <|
  drainK false 0 c <| drainK false 1 c <| drainK true 0 c <| drainK true 1 c <|
  waitK (copySem false) (ownRows false c) <| waitK (copySem true) (ownRows true c) (.ret ⟨⟩)

set_option maxRecDepth 1000000 in
set_option maxHeartbeats 4000000 in
/-- The printed body is the program above. -/
theorem body_eq :
    cc0_body (F := F) xM (Memref.isWhole_whole _) wM (Memref.isWhole_whole _) oM (Memref.isWhole_whole _) (Memref.whole main_v1_1) (Memref.isWhole_whole _)
      (Memref.whole main_v1_2) (Memref.isWhole_whole _) (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7 cc0_scratch8 cc0_scratch9 =
    Prog.op .deviceId (fun c => bodyK (F := F) c) := rfl

end Cert.KernelIdeal.Ring

end
-- ==== Proof.Rules.lean ====
/-
What each piece of the kernel's program costs: one rule per kind of operation, over memrefs held BY VALUE.

`hold c m X`: device `c` holds the elements of memref `m`, which read `X`. A local copy waited for at once copies a
value; a send puts the source in flight (`Transfers.Flight`, given back by the wait on the send semaphore) and hands
the neighbour's receive cell the block it wrote, with whatever the sender hands on besides; a receive wait takes what
its cell was handed and closes the cell.
-/
module

public import proofs.«01_k».proof.Proof.Prog
public import Idealize.ShloMosaic.Lib.Pipeline.Launch
public import Idealize.ShloMosaic.Lib.Pipeline.Kit
public import Idealize.ShloMosaic.Lib.Rounds
public import Idealize.ShloMosaic.Lib.Transfers
public import Idealize.ShloMosaic.Lib.VecWindow
public import Idealize.ShloMosaic.Lib.Tactic

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

/-! ## The resource algebra: the pipeline's rounds, the ring's (duties `Bool`), the transfers' counters -/

abbrev UB : Type := URounds (GSem nD τ sig) Bool
abbrev UU : Type := UR sig nD τ × (UB × Counters)
abbrev MM (F : FTy → Type) [FloatOps F] : Type := MT nD τ sig Unit (Elt F) ℕ UU ℕ

abbrev EP : Emb (UR sig nD τ) (MM F) := embL
def ER : Emb UB (MM F) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB (MM F)).LandsIn (upEmb : UEmb _ (MM F)) := by unfold ER; infer_instance
abbrev EC : UEmb Counters (MM F) := countersEmb

abbrev 𝒱₀ : Variants := Variants.none

/-- The program `k` on device `c` runs to `Q`. -/
abbrev run (c : Dev nD) (k : KProg F) (Q : PUnit → sProp (MM F)) : sProp (MM F) :=
  wp frame (wpE (defs₀ (F := F)) 𝒱₀ (c : Thread nD τ) none) Set.univ k Q

/-! ## Holding by value -/

/-- Device `c` holds `m`'s elements, which read `X`. -/
def hold (c : Dev nD) {sp : Space} {sh : Shape} (m : Memref sig .tc sp sh .f32) (X : Vec F sh .f32) : sProp (MM F) :=
  m.view.loc (c : Thread nD τ) ↦[m.view.set]{fullShare} m.view.rep X

/-- Device `c` holds `m`'s elements, whatever they read. -/
def have_ (c : Dev nD) {sp : Space} {sh : Shape} (m : Memref sig .tc sp sh .f32) : sProp (MM F) := iprop(∃ X, hold c m X)

instance hold_storable (c : Dev nD) {sp : Space} {sh : Shape} (m : Memref sig .tc sp sh .f32) (X : Vec F sh .f32) :
    BI.Storable (upEmb : UEmb _ (MM F)) (hold c m X) := by unfold hold; infer_instance
instance have_storable (c : Dev nD) {sp : Space} {sh : Shape} (m : Memref sig .tc sp sh .f32) :
    BI.Storable (upEmb : UEmb _ (MM F)) (have_ (F := F) c m) := by unfold have_; infer_instance

theorem have_of_hold (c : Dev nD) {sp : Space} {sh : Shape} (m : Memref sig .tc sp sh .f32) (X : Vec F sh .f32) : hold c m X ⊢ have_ c m := by
  unfold have_; iintro H; iexists X; iexact H

theorem hold_of_read (c : Dev nD) {sp : Space} {sh : Shape} (m : Memref sig .tc sp sh .f32) (f : Buf (Elt F) (m.view.loc (c : Thread nD τ)))
    (X : Vec F sh .f32) (h : m.view.read (Elt F) f = X) :
    (m.view.loc (c : Thread nD τ) ↦[m.view.set]{fullShare} f : sProp (MM F)) ⊢ hold c m X :=
  pointsTo_rep_of_read (c : Thread nD τ) m f fullShare X h

theorem hold_of_copy (c : Dev nD) {sp sp' : Space} {sh : Shape} (src : Memref sig .tc sp sh .f32) (dst : Memref sig .tc sp' sh .f32)
    (f : Buf (Elt F) (dst.view.loc (c : Thread nD τ))) (X : Vec F sh .f32) :
    (dst.view.loc (c : Thread nD τ) ↦[dst.view.set]{fullShare} dst.view.write (Elt F) f (src.view.read (Elt F) (src.view.rep X)) Finset.univ : sProp (MM F)) ⊢
      (dst.view.loc (c : Thread nD τ) ↦[dst.view.set]{fullShare} dst.view.rep X) :=
  hold_of_read c dst _ X (by rw [View.read_write_univ]; exact View.read_rep _ _)

/-- What device `c` still owes, whatever it has waited for. -/
def owesE (c : Dev nD) (O : CellTallies nD τ sig Unit) : sProp (MM F) := iprop(∃ W, owes (c : Thread nD τ) O W)

/-- Every hop moves a 512 x 1024 block of f32. -/
abbrev N : ℕ := (oAt ![0, 0] (by decide)).view.dmaCredit
theorem N_pos : 0 < N := View.dmaCredit_pos _ (by decide)

/-! ## The local copies -/

theorem wp_copyK (c : Dev nD) {sp sp' : Space} {sh : Shape} (sem : DmaSem sig) (src : Memref sig .tc sp sh .f32) (dst : Memref sig .tc sp' sh .f32)
    (h : (DmaTarget.here (nD := nD) (τ := τ) (p := .tc) dst).Typed sp (.dma sem)) (hsh : 0 < sh.numel) (X : Vec F sh .f32)
    (O : CellTallies nD τ sig Unit) (k : KProg F) (Q : PUnit → sProp (MM F)) :
    iprop(hold c src X ∗ have_ c dst ∗ semVal ((c : Thread nD τ), .dma sem) 0 ∗ owesE c O ∗ MayWait (c : Thread nD τ) (.dma sem) () O)
      ⊢ iprop(((hold c src X ∗ hold c dst X ∗ semVal ((c : Thread nD τ), .dma sem) 0 ∗ owesE c O) -∗ run c k Q) -∗ run c (copyK sem src dst h k) Q) := by
  unfold have_ owesE copyK
  iintro ⟨Hs, ⟨%Y, Hd⟩, Hv, ⟨%W, HO⟩, Hm⟩ Hk
  unfold hold
  iapply (Transfers.wp_dmaLocal EC 𝒱₀ (c : Thread nD τ) none () dst.view.dmaCredit rfl (View.dmaCredit_pos _ hsh) (Finset.Subset.refl _)) $$ [Hs Hd Hv]
  · isplitl [Hs]; · iexact Hs
    isplitl [Hd] <;> iassumption
  iintro Hf
  iapply (Transfers.wp_waitLocalO EC 𝒱₀ (c : Thread nD τ) none () rfl) $$ [Hf HO Hm]
  · isplitl [Hf]; · iexact Hf
    isplitl [HO] <;> iassumption
  iintro ⟨⟨Hd, Hs⟩, Hv, HO⟩
  iapply Hk
  isplitl [Hs]; · iexact Hs
  isplitl [Hd]
  · iapply (hold_of_copy c src dst _ X) $$ Hd
  isplitl [Hv]; · iexact Hv
  iexists _; iexact HO

/-- Starting a copy: it is in flight until waited for. -/
theorem wp_ownStartK (d : Bool) (c : Dev nD) (X : Vec F S512x2048 .f32) (k : KProg F) (Q : PUnit → sProp (MM F)) :
    iprop(hold c (wideV (accM d) 1) X ∗ have_ c (ownRows d c) ∗ semVal ((c : Thread nD τ), .dma (copySem d)) 0)
      ⊢ iprop((Flight EC (c : Thread nD τ) (.dma (copySem d)) () (ownRows d c).view.dmaCredit iprop(hold c (ownRows d c) X ∗ hold c (wideV (accM d) 1) X) -∗ run c k Q)
        -∗ run c (ownStartK d c k) Q) := by
  unfold have_ ownStartK
  iintro ⟨Hs, ⟨%Y, Hd⟩, Hv⟩ Hk
  unfold hold
  iapply (Transfers.wp_dmaLocal EC 𝒱₀ (c : Thread nD τ) none () (ownRows d c).view.dmaCredit rfl (View.dmaCredit_pos _ (by decide)) (Finset.Subset.refl _)) $$ [Hs Hd Hv]
  · isplitl [Hs]; · iexact Hs
    isplitl [Hd] <;> iassumption
  iintro Hf
  iapply Hk
  iapply (Transfers.Flight_mono EC (c : Thread nD τ) ?_) $$ Hf
  iintro ⟨Hd, Hs⟩
  isplitl [Hd]
  · iapply (hold_of_copy c (wideV (accM d) 1) (ownRows d c) _ X) $$ Hd
  iexact Hs

/-! ## The hops -/

/-- Waiting for a transfer in flight: what it delivers, the semaphore back at zero. -/
theorem wp_waitK (c : Dev nD) {sh : Shape} (sem : DmaSem sig) (dst : Memref sig .tc .hbm sh .f32) (n : ℕ) (hn : dst.view.dmaCredit = n) (D : sProp (MM F))
    (O : CellTallies nD τ sig Unit) (k : KProg F) (Q : PUnit → sProp (MM F)) :
    iprop(Flight EC (c : Thread nD τ) (.dma sem) () n D ∗ owesE c O ∗ MayWait (c : Thread nD τ) (.dma sem) () O)
      ⊢ iprop(((D ∗ semVal ((c : Thread nD τ), .dma sem) 0 ∗ owesE c O) -∗ run c k Q) -∗ run c (waitK sem dst k) Q) := by
  unfold owesE waitK
  iintro ⟨Hf, ⟨%W, HO⟩, Hm⟩ Hk
  iapply (Transfers.wp_waitLocalO EC 𝒱₀ (c : Thread nD τ) none () hn) $$ [Hf HO Hm]
  · isplitl [Hf]; · iexact Hf
    isplitl [HO] <;> iassumption
  iintro ⟨HD, Hv, HO⟩
  iapply Hk
  isplitl [HD]; · iexact HD
  isplitl [Hv]; · iexact Hv
  iexists _; iexact HO

/-- The cell a hop lands on. -/
abbrev recvCell (c : Dev nD) (d : Bool) (s : Fin 2) (j : ℕ) : GSem nD τ sig := ((c : Thread nD τ), .dma (recvSem d s j))

theorem wp_sendK (Rd : Rounds.Schedule (GSem nD τ sig) Bool (MM F)) [∀ g r b, BI.Storable (upEmb : UEmb _ (MM F)) (Rd.payload g r b)]
    (d : Bool) (s : Fin 2) (c : Dev nD) (j : ℕ) (src dst : Memref sig .tc .hbm S512x1024 .f32) (hN : dst.view.dmaCredit = N)
    (X : Vec F S512x1024 .f32) (R : sProp (MM F)) (κ : ℕ)
    (hd : false ∈ Rd.duties (recvCell (toDev d c) d s j) 0) (ha : Rd.amount (recvCell (toDev d c) d s j) 0 false = N)
    (hp : iprop(hold (toDev d c) dst X ∗ R) ⊢ Rd.payload (recvCell (toDev d c) d s j) 0 false)
    (O : CellTallies nD τ sig Unit) (k : KProg F) (Q : PUnit → sProp (MM F)) :
    iprop(cellInv ER Rd κ (recvCell (toDev d c) d s j) ∗ reached ER (recvCell (toDev d c) d s j) 0 ∗ dutyTok ER (recvCell (toDev d c) d s j) 0 false
        ∗ hold c src X ∗ have_ (toDev d c) dst ∗ R ∗ semVal ((c : Thread nD τ), .dma (sendSem d s j)) 0
        ∗ owesE c (O + tallyAt (recvCell (toDev d c) d s j) () N))
      ⊢ iprop(((Flight EC (c : Thread nD τ) (.dma (sendSem d s j)) () N (hold c src X) ∗ owesE c O) -∗ run c k Q) -∗ run c (sendK d s c j src dst k) Q) := by
  unfold have_ owesE sendK
  iintro ⟨Hi, Hr, Ht, Hs, ⟨%Y, Hd⟩, HR, Hv, ⟨%W, HO⟩⟩ Hk
  unfold hold at *
  imod (Transfers.flight_alloc EC N_pos (src.view.loc (c : Thread nD τ) ↦[src.view.set]{fullShare} src.view.rep X : sProp (MM F))
    (g := ((c : Thread nD τ), .dma (sendSem d s j)))) $$ Hv with ⟨%γ, %δ, %κ', #Hinv, Hγ, Hδ⟩
  iapply (wp_enqueueDma_remote (c' := (Dev.tc (toDev d c))) (dst := dst) (sem := .dma (recvSem d s j)) 𝒱₀ (c : Thread nD τ) none Set.univ false () () O N hN rfl) $$ [Hs Hd HR HO] [Hγ] [Hi Hr Ht]
  · isplitl [Hs]; · iexact Hs
    isplitl [Hd HR]
    · iapply (writeUpdate_frame (toDev d c : Thread nD τ) (F := R))
      isplitl [Hd]
      · iapply (pointsTo_writeUpdate (toDev d c : Thread nD τ) (v := dst.view) subset_rfl) $$ Hd
      · iexact HR
    · iexact HO
  · iapply (Transfers.flight_creditUpdate EC (δ := δ))
    isplitr; · iexact Hinv
    iexact Hγ
  · have hp' : iprop((dst.view.loc (toDev d c : Thread nD τ) ↦[dst.view.set]{fullShare} dst.view.write (Elt F) (dst.view.rep Y) (src.view.read (Elt F) (src.view.rep X)) Finset.univ) ∗ R)
        ⊢ Rd.payload (recvCell (toDev d c) d s j) 0 false := BIBase.Entails.trans (sep_mono_left (hold_of_copy (toDev d c) src dst _ X)) hp
    rw [← ha]
    iapply (land_credit ER Rd (κ := κ) hd hp')
    isplitl [Hi]; · iexact Hi
    isplitl [Ht] <;> iassumption
  iintro ⟨Hc, HO⟩
  iapply Hk
  isplitr [HO]
  · iapply (Transfers.flight_intro EC (c : Thread nD τ) (κ := κ'))
    isplitr; · iexact Hinv
    isplitl [Hδ] <;> iassumption
  · iexists _; iexact HO

theorem wp_recvK (Rd : Rounds.Schedule (GSem nD τ sig) Bool (MM F)) [∀ g r b, BI.Storable (upEmb : UEmb _ (MM F)) (Rd.payload g r b)]
    (d : Bool) (s : Fin 2) (c : Dev nD) (j : ℕ) (dst : Memref sig .tc .hbm S512x1024 .f32) (hN : dst.view.dmaCredit = N) (κ : ℕ)
    (hu : ¬ Rd.unitless (recvCell c d s j)) (hd : Rd.duties (recvCell c d s j) 0 = {false}) (hd' : ∀ r, 1 ≤ r → Rd.duties (recvCell c d s j) r = ∅) (ha : Rd.amount (recvCell c d s j) 0 false = N)
    (O : CellTallies nD τ sig Unit) (k : KProg F) (Q : PUnit → sProp (MM F)) :
    iprop(cellInv ER Rd κ (recvCell c d s j) ∗ cred (tallyAt (recvCell c d s j) () N) ∗ atPos ER (recvCell c d s j) 0 ∅ 0
        ∗ owesE c O ∗ MayWait (c : Thread nD τ) (.dma (recvSem d s j)) () O)
      ⊢ iprop(((Rd.payload (recvCell c d s j) 0 false ∗ semVal (recvCell c d s j) 0 ∗ owesE c O) -∗ run c k Q) -∗ run c (waitK (recvSem d s j) dst k) Q) := by
  unfold owesE waitK
  iintro ⟨#Hi, Hc, Ha, ⟨%W, HO⟩, Hm⟩ Hk
  have hex : Rd.expect (recvCell c d s j) 0 = N := by
    unfold Schedule.expect Schedule.amountOf; rw [hd, Finset.sum_singleton, ha]
  have hrest : bigSep (Rd.duties (recvCell c d s j) 0 \ ∅) (fun b => Rd.payload (recvCell c d s j) 0 b) = Rd.payload (recvCell c d s j) 0 false := by
    rw [Finset.sdiff_empty, hd, bigSep_singleton]
  iapply (Rounds.wp_wait_rest_token 𝒱₀ ER Rd (c : Thread nD τ) none (κ := κ)
      (wpE_waitDma2_eq 𝒱₀ (c : Thread nD τ) none Set.univ) (Set.mem_univ _) () (O := O) (W := W) (R := 0) (m := 0) (T := ∅)
      (by rw [Nat.zero_add, hex, hN])) $$ [Hc HO Hm Ha]
  · isplitr; · iexact Hi
    isplitl [Hc]; · iexact Hc
    isplitl [HO]; · iexact HO
    isplitl [Hm] <;> iassumption
  iintro ⟨HO, Ha, -, Hp⟩
  ihave Hp := (Entails.of_eq hrest) $$ Hp
  imod (Rounds.cell_close ER Rd (Set.mem_univ κ) hu (R := 0 + 1) hd') $$ [Ha] with Hz
  · isplitr; · iexact Hi
    iexact Ha
  iapply Hk
  isplitl [Hp]; · iexact Hp
  isplitl [Hz]; · iexact Hz
  iexists _; iexact HO

end Cert.KernelIdeal.Ring

end
-- ==== Proof.Geometry.lean ====
/-
The ring's addresses: which block each hop names, and how the buffers split into the blocks.

`up d c k` is the device `k` places upstream of `c` in direction `d` (upstream: where its blocks come from). A hop's
destination, the block it lands in and the row chunk its partial product is computed from are all chunk `up d c k` of
something, so every printed offset is one of those.
-/
module

public import proofs.«01_k».proof.Proof.Rules
public import Idealize.ShloMosaic.Lib.Pipeline.Value
public import Idealize.ShloMosaic.Lib.Pipeline.ValueKit.Geometry

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The ring -/

/-- The device `k` places upstream of `c` in direction `d`: below it on the mesh for the clockwise half, above it for the other. -/
def up (d : Bool) (c : Dev nD) (k : ℕ) : Dev nD := match d with | false => c - Fin.ofNat 16 k | true => c + Fin.ofNat 16 k

theorem up_zero (d : Bool) (c : Dev nD) : up d c 0 = c := by revert d c; decide
theorem fin16_sub (c : Fin 16) (a b : ℕ) : c - Fin.ofNat 16 a - Fin.ofNat 16 b = c - Fin.ofNat 16 (a + b) := by
  apply Fin.ext; simp only [Fin.sub_def, Fin.ofNat]; omega
theorem fin16_add (c : Fin 16) (a b : ℕ) : c + Fin.ofNat 16 a + Fin.ofNat 16 b = c + Fin.ofNat 16 (a + b) := by
  apply Fin.ext; simp only [Fin.add_def, Fin.ofNat]; omega
theorem up_up (d : Bool) (c : Dev nD) (a b : ℕ) : up d (up d c a) b = up d c (a + b) := by
  cases d
  · exact fin16_sub c a b
  · exact fin16_add c a b
theorem up_mod (d : Bool) (c : Dev nD) (a b : ℕ) (h : a % 16 = b % 16) : up d c a = up d c b := by
  have : Fin.ofNat 16 a = Fin.ofNat 16 b := Fin.ext h
  unfold up; rw [this]
theorem up_sixteen (d : Bool) (c : Dev nD) : up d c 16 = c := by rw [up_mod d c 16 0 rfl, up_zero]

theorem toDev_eq (d : Bool) (c : Dev nD) : toDev d c = up d c 15 := by
  cases d
  · exact Fin.ext ((k0_dev3_eq c).trans (by revert c; decide))
  · exact Fin.ext ((k0_dev4_eq c).trans (by revert c; decide))
theorem up_toDev (d : Bool) (c : Dev nD) (k : ℕ) : up d (toDev d c) (k + 1) = up d c k := by
  rw [toDev_eq, up_up]; exact up_mod d c _ _ (by omega)

/-- Upstream by `k`, as a permutation of the devices. -/
def upEquiv (d : Bool) (k : Fin 16) : Dev nD ≃ Dev nD where
  toFun c := up d c k.val
  invFun c := up d c (16 - k.val)
  left_inv c := by show up d (up d c k.val) (16 - k.val) = c; rw [up_up, show k.val + (16 - k.val) = 16 by omega, up_sixteen]
  right_inv c := by show up d (up d c (16 - k.val)) k.val = c; rw [up_up, show 16 - k.val + k.val = 16 by omega, up_sixteen]

/-! ## The output's blocks -/

theorem inbBlk : ∀ (d : Bool) (s : Fin 2) (ch : Dev nD) (a), (![512 * ch.val, 2048 * d.toNat + 1024 * s.val] : Fin 2 → ℕ) a + S512x1024.size a ≤ S8192x4096.size a := by decide

/-- Chunk `ch`'s 512 rows, direction `d`'s columns, half `s`. -/
abbrev oBlk (d : Bool) (s : Fin 2) (ch : Dev nD) : Memref sig .tc .hbm S512x1024 .f32 := oAt ![512 * ch.val, 2048 * d.toNat + 1024 * s.val] (inbBlk d s ch)

theorem oAt_congr {off off' : Fin 2 → ℕ} (e : off = off') (h : ∀ a, off a + S512x1024.size a ≤ S8192x4096.size a) (h' : ∀ a, off' a + S512x1024.size a ≤ S8192x4096.size a) :
    oAt off h = oAt off' h' := by subst e; rfl

theorem sub_val (c : Dev nD) (r : Fin 16) : (c.val + 32 - r.val) % 16 = (up false c r.val).val := by revert c r; decide
theorem add_val (c : Dev nD) (r : Fin 16) : (c.val + r.val) % 16 = (up true c r.val).val := by revert c r; decide
theorem sub_val' (c : Dev nD) (r : Fin 15) : (c.val + 30 - r.val) % 16 = (up false c (r.val + 2)).val := by revert c r; decide
theorem add_val' (c : Dev nD) (r : Fin 15) : (c.val + r.val + 2) % 16 = (up true c (r.val + 2)).val := by revert c r; decide

theorem ofNat16_val (d : Bool) (c : Dev nD) (r : ℕ) : up d c (Fin.ofNat 16 r).val = up d c r := up_mod d c _ _ (Nat.mod_mod _ _)

theorem sendBlk_eq (d : Bool) (s : Fin 2) (c : Dev nD) (r : ℕ) : sendBlk d s c r = oBlk d s (up d c r) := by
  rw [← ofNat16_val d c r]
  match d, s with
  | false, 0 => exact oAt_congr ((k0_off3_eq c _).trans (by rw [sub_val]; rfl)) _ _
  | true, 0 => exact oAt_congr ((k0_off4_eq c _).trans (by rw [add_val]; rfl)) _ _
  | false, 1 => exact oAt_congr ((k0_off5_eq c _).trans (by rw [sub_val]; rfl)) _ _
  | true, 1 => exact oAt_congr ((k0_off6_eq c _).trans (by rw [add_val]; rfl)) _ _

theorem landBlk_eq (d : Bool) (s : Fin 2) (c : Dev nD) (i : ℕ) (hi : i < 15) : landBlk d s c i = oBlk d s (up d c (i + 2)) := by
  have hv : (Fin.ofNat 15 i).val = i := Nat.mod_eq_of_lt hi
  rw [show i + 2 = (Fin.ofNat 15 i).val + 2 by rw [hv]]
  match d, s with
  | false, 0 => exact oAt_congr ((k0_off9_eq c _).trans (by rw [sub_val']; rfl)) _ _
  | true, 0 => exact oAt_congr ((k0_off10_eq c _).trans (by rw [add_val']; rfl)) _ _
  | false, 1 => exact oAt_congr ((k0_off11_eq c _).trans (by rw [sub_val']; rfl)) _ _
  | true, 1 => exact oAt_congr ((k0_off12_eq c _).trans (by rw [add_val']; rfl)) _ _

/-! ## Credits -/

theorem credit_oAt (off : Fin 2 → ℕ) (h) : (oAt off h).view.dmaCredit = N := rfl
theorem credit_sendBlk (d : Bool) (s : Fin 2) (c : Dev nD) (r : ℕ) : (sendBlk d s c r).view.dmaCredit = N := by rw [sendBlk_eq]
theorem credit_slot (d : Bool) (b s : Fin 2) : (slotV (sumM d) b s).view.dmaCredit = N := by cases d <;> rfl
theorem credit_sent (d : Bool) (s : Fin 2) (c : Dev nD) (j : ℕ) : (sentBlk d s c j).view.dmaCredit = N := by
  unfold sentBlk; split
  · exact credit_slot d _ s
  · exact credit_sendBlk d s c _

/-! ## Reading a half of a wide block -/

theorem halfP_apply (s : Fin 2) (p : FVec F S512x2048 .f32) (j : S512x1024.Idx) (k : S512x2048.Idx) (h0 : (k 0).val = (j 0).val) (h1 : (k 1).val = 1024 * s.val + (j 1).val) :
    halfP s p j = p k := by
  match s with
  | 0 =>
    refine extractStridedSlice_apply ![0, 0] p slices_S512x2048_o0_0_S512x1024 j k ?_
    exact Fin.forall_fin_two.2 ⟨h0.trans (Nat.zero_add _).symm, h1⟩
  | 1 =>
    refine extractStridedSlice_apply ![0, 1024] p slices_S512x2048_o0_1024_S512x1024 j k ?_
    exact Fin.forall_fin_two.2 ⟨h0.trans (Nat.zero_add _).symm, h1⟩

/-- The column `1024 s + j` of a wide row. -/
def wideIdx (s : Fin 2) (j : S512x1024.Idx) : S512x2048.Idx := fun a => match a with
  | ⟨0, _⟩ => (⟨(j 0).val, (j 0).isLt⟩ : Fin 512)
  | ⟨1, _⟩ => (⟨1024 * s.val + (j 1).val, by have := (j 1).isLt; have h := s.isLt; change _ < 1024 at this; omega⟩ : Fin 2048)

theorem halfP_eq (s : Fin 2) (p : FVec F S512x2048 .f32) : halfP s p = fun j => p (wideIdx s j) := funext fun j => halfP_apply s p j _ rfl rfl

theorem slotR_emb (b s : Fin 2) (j : S512x1024.Idx) (h1 h2) :
    (slotR b s).emb (Shape.reshapeEquiv (s := S1x512x1024) (s' := S512x1024) h1 j) = (wideR b).emb (Shape.reshapeEquiv (s := S1x512x2048) (s' := S512x2048) h2 (wideIdx s j)) := by
  erw [Shape.reshapeEquiv_cons_one, Shape.reshapeEquiv_cons_one]
  funext a; apply Fin.ext
  rw [ValueKit.rect_emb_unit_val, ValueKit.rect_emb_unit_val]
  fin_cases a
  · rfl
  · rfl
  · exact (Nat.zero_add _).symm

/-- A slot's half sits in the slot as the wide row's half. -/
theorem slot_emb {sp : Space} (m : Memref sig .tc sp S2x512x2048 .f32) (b s : Fin 2) (j : S512x1024.Idx) :
    (slotV m b s).view.emb j = (wideV m b).view.emb (wideIdx s j) := congrArg m.view.emb (slotR_emb b s j _ _)

end Cert.KernelIdeal.Ring

end
-- ==== Proof.Buffers.lean ====
/-
How the buffers split into the blocks the hops move, and join again.

Every block's elements are a buffer's elements at an injective placement; a family of placements which together cover a
larger one splits it (`split_map`) and joins to it (`join_map`). The rest are the buffers the kernel has: the output into
its 64 blocks, the two-slot sums into their slots, a slot into its halves.
-/
module

public import proofs.«01_k».proof.Proof.Geometry

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Families of placements -/

section Families

variable {ℓ : Loc nD τ sig} {A B T : Type} [Fintype A] [Fintype B] [Fintype T] [DecidableEq T]
  (e : A ↪ Idx ℓ) (f : T → B ↪ Idx ℓ) (φ : T → B → A)

theorem cover_map (hs : ∀ a, ∃ t b, φ t b = a) (h : ∀ t b, f t b = e (φ t b)) :
    Finset.univ.map e = Finset.univ.biUnion fun t => Finset.univ.map (f t) := by
  ext i
  simp only [Finset.mem_map, Finset.mem_univ, true_and, Finset.mem_biUnion]
  constructor
  · rintro ⟨a, rfl⟩
    obtain ⟨t, b, rfl⟩ := hs a
    exact ⟨t, b, h t b⟩
  · rintro ⟨t, b, rfl⟩
    exact ⟨φ t b, (h t b).symm⟩

theorem disjoint_map (hi : ∀ t b t' b', φ t b = φ t' b' → t = t') (h : ∀ t b, f t b = e (φ t b)) (t t' : T) (hne : t ≠ t') :
    Disjoint (Finset.univ.map (f t)) (Finset.univ.map (f t')) := by
  rw [Finset.disjoint_left]
  intro i h1 h2
  simp only [Finset.mem_map, Finset.mem_univ, true_and] at h1 h2
  obtain ⟨b, rfl⟩ := h1
  obtain ⟨b', hb⟩ := h2
  rw [h, h] at hb
  exact hne (hi _ _ _ _ (e.injective hb)).symm

theorem split_map (hs : ∀ a, ∃ t b, φ t b = a) (hi : ∀ t b t' b', φ t b = φ t' b' → t = t') (h : ∀ t b, f t b = e (φ t b)) (g : Buf (Elt F) ℓ) :
    (ℓ ↦[Finset.univ.map e]{fullShare} g : sProp (MM F)) = bigSep Finset.univ fun t => ℓ ↦[Finset.univ.map (f t)]{fullShare} g := by
  rw [cover_map e f φ hs h, pointsTo_biUnion _ _ (fun t _ t' _ => disjoint_map e f φ hi h t t')]

theorem join_map (hs : ∀ a, ∃ t b, φ t b = a) (hi : ∀ t b t' b', φ t b = φ t' b' → t = t') (h : ∀ t b, f t b = e (φ t b)) (g₀ : Buf (Elt F) ℓ) (gs : T → Buf (Elt F) ℓ) :
    (bigSep Finset.univ fun t => (ℓ ↦[Finset.univ.map (f t)]{fullShare} gs t : sProp (MM F)))
      ⊢ iprop(∃ g, ⌜∀ t b, g (f t b) = gs t (f t b)⌝ ∗ ℓ ↦[Finset.univ.map e]{fullShare} g) := by
  rw [cover_map e f φ hs h]
  refine BIBase.Entails.trans (pointsTo_biUnion_join _ _ gs g₀ (fun t _ t' _ => disjoint_map e f φ hi h t t')) ?_
  iintro ⟨%g, %hg, H⟩
  iexists g
  isplitr
  · ipureintro; exact fun t b => hg t (Finset.mem_univ _) _ (Finset.mem_map_of_mem _ (Finset.mem_univ _))
  · iexact H

end Families

/-! ## Halves of a wide slot -/

/-- The index `(a, b)` of a block. -/
def ix (a : Fin 512) (b : Fin 1024) : S512x1024.Idx := fun x => match x with
  | ⟨0, _⟩ => a
  | ⟨1, _⟩ => b

theorem wideIdx_surj (a : S512x2048.Idx) : ∃ s j, wideIdx s j = a := by
  have h0 : (a 0).val < 512 := (a 0).isLt
  have h1 : (a 1).val < 2048 := (a 1).isLt
  refine ⟨⟨(a 1).val / 1024, by omega⟩, ix ⟨(a 0).val, h0⟩ ⟨(a 1).val % 1024, Nat.mod_lt _ (by decide)⟩, ?_⟩
  funext x; apply Fin.ext; revert x
  refine Fin.forall_fin_two.2 ⟨rfl, ?_⟩
  show 1024 * ((a 1).val / 1024) + (a 1).val % 1024 = (a 1).val
  omega
theorem wideIdx_inj (s : Fin 2) (j : S512x1024.Idx) (s' : Fin 2) (j' : S512x1024.Idx) (h : wideIdx s j = wideIdx s' j') : s = s' := by
  have h1 : 1024 * s.val + (j 1).val = 1024 * s'.val + (j' 1).val := congrArg (fun k : S512x2048.Idx => (k 1).val) h
  have a : (j 1).val < 1024 := (j 1).isLt
  have b : (j' 1).val < 1024 := (j' 1).isLt
  apply Fin.ext; omega

theorem hold_split {sp : Space} (m : Memref sig .tc sp S2x512x2048 .f32) (c : Dev nD) (b : Fin 2) (X : Vec F S512x2048 .f32) :
    hold c (wideV m b) X ⊢ iprop(hold c (slotV m b 0) (halfP 0 X) ∗ hold c (slotV m b 1) (halfP 1 X)) := by
  refine BIBase.Entails.trans ?_ (Entails.of_eq (bigSep_fin_two (fun s => hold c (slotV m b s) (halfP s X))))
  unfold hold
  refine BIBase.Entails.trans (Entails.of_eq (split_map (ℓ := m.view.loc (c : Thread nD τ)) (View.emb (wideV m b).view) (fun s => View.emb (slotV m b s).view) wideIdx wideIdx_surj wideIdx_inj (fun s j => slot_emb m b s j) _)) ?_
  refine bigSep_mono fun s _ => hold_of_read c (slotV m b s) _ _ ?_
  funext j
  rw [halfP_eq, View.read_apply, slot_emb]
  exact congrFun (View.read_rep (wideV m b).view X) (wideIdx s j)

/-- The two halves of a slot, joined. -/
def joinW (Y0 Y1 : Vec F S512x1024 .f32) : Vec F S512x2048 .f32 := fun k =>
  if h : (k 1).val < 1024 then Y0 (ix ⟨(k 0).val, (k 0).isLt⟩ ⟨(k 1).val, h⟩)
  else Y1 (ix ⟨(k 0).val, (k 0).isLt⟩ ⟨(k 1).val - 1024, by have : (k 1).val < 2048 := (k 1).isLt; omega⟩)

theorem joinW_wide (Y : Fin 2 → Vec F S512x1024 .f32) (s : Fin 2) (j : S512x1024.Idx) : joinW (Y 0) (Y 1) (wideIdx s j) = Y s j := by
  have hj : (j 1).val < 1024 := (j 1).isLt
  match s with
  | 0 =>
    have h : (wideIdx 0 j 1).val < 1024 := by show 1024 * 0 + (j 1).val < 1024; omega
    unfold joinW; rw [dif_pos h]
    refine congrArg (Y 0) (funext fun a => Fin.ext ?_); revert a
    exact Fin.forall_fin_two.2 ⟨rfl, by show 1024 * 0 + (j 1).val = _; omega⟩
  | 1 =>
    have h : ¬ (wideIdx 1 j 1).val < 1024 := by show ¬ 1024 * 1 + (j 1).val < 1024; omega
    unfold joinW; rw [dif_neg h]
    refine congrArg (Y 1) (funext fun a => Fin.ext ?_); revert a
    exact Fin.forall_fin_two.2 ⟨rfl, by show 1024 * 1 + (j 1).val - 1024 = _; omega⟩

theorem halfP_joinW (Y : Fin 2 → Vec F S512x1024 .f32) (s : Fin 2) : halfP s (joinW (Y 0) (Y 1)) = Y s := by
  rw [halfP_eq]; exact funext fun j => joinW_wide Y s j

theorem hold_join {sp : Space} (m : Memref sig .tc sp S2x512x2048 .f32) (c : Dev nD) (b : Fin 2) (Y : Fin 2 → Vec F S512x1024 .f32) :
    iprop(hold c (slotV m b 0) (Y 0) ∗ hold c (slotV m b 1) (Y 1)) ⊢ hold c (wideV m b) (joinW (Y 0) (Y 1)) := by
  refine BIBase.Entails.trans (Entails.of_eq (bigSep_fin_two (fun s => hold c (slotV m b s) (Y s))).symm) ?_
  unfold hold
  refine BIBase.Entails.trans (join_map (ℓ := m.view.loc (c : Thread nD τ)) (View.emb (wideV m b).view) (fun s => View.emb (slotV m b s).view) wideIdx wideIdx_surj wideIdx_inj (fun s j => slot_emb m b s j)
    ((wideV m b).view.rep (joinW (Y 0) (Y 1))) (fun s => (slotV m b s).view.rep (Y s))) ?_
  iintro ⟨%g, %hg, H⟩
  iapply (show (m.view.loc (c : Thread nD τ) ↦[Finset.univ.map (wideV m b).view.emb]{fullShare} g : sProp (MM F)) ⊢ ((wideV m b).view.loc (c : Thread nD τ) ↦[(wideV m b).view.set]{fullShare} (wideV m b).view.rep (joinW (Y 0) (Y 1))) from hold_of_read c (wideV m b) g (joinW (Y 0) (Y 1)) ?_) $$ H
  funext a
  obtain ⟨s, j, rfl⟩ := wideIdx_surj a
  rw [joinW_wide, View.read_apply, ← slot_emb, hg]
  exact congrFun (View.read_rep (slotV m b s).view (Y s)) j

/-! ## A memref cut into rectangles -/

section Slices

variable {T : Type} [Fintype T] [DecidableEq T] {sp : Space} {S : Shape} (m : Memref sig .tc sp S .f32) (c : Dev nD)
  (off : T → Fin S.rank → ℕ) (size : Fin S.rank → ℕ) (inb : ∀ t a, off t a + size a ≤ S.size a)

/-- Every index is in one of the rectangles. -/
def Covers : Prop := ∀ i : S.Idx, ∃ t, ∀ a, off t a ≤ (i a).val ∧ (i a).val < off t a + size a
/-- No index is in two of the rectangles. -/
def Apart : Prop := ∀ (i : S.Idx) (t t' : T), (∀ a, off t a ≤ (i a).val ∧ (i a).val < off t a + size a) →
  (∀ a, off t' a ≤ (i a).val ∧ (i a).val < off t' a + size a) → t = t'

abbrev rectAt (t : T) : Rect S := Rect.unit (s := S) (off t) size (inb t)
abbrev cut (t : T) : Memref sig .tc sp ⟨S.rank, size⟩ .f32 := m.slice (rectAt off size inb t) (fun _ => rfl)

theorem rectAt_range (t : T) (j : (⟨S.rank, size⟩ : Shape).Idx) (a : Fin S.rank) :
    off t a ≤ ((rectAt off size inb t).emb j a).val ∧ ((rectAt off size inb t).emb j a).val < off t a + size a := by
  rw [ValueKit.rect_emb_unit_val]
  have : (j a).val < size a := (j a).isLt
  omega

theorem rectAt_surj (h : Covers (S := S) off size) (i : S.Idx) : ∃ t, ∃ j : (⟨S.rank, size⟩ : Shape).Idx, (rectAt off size inb t).emb j = i := by
  obtain ⟨t, ht⟩ := h i
  refine ⟨t, fun a => ⟨(i a).val - off t a, by have := ht a; show _ < size a; omega⟩, ?_⟩
  funext a; apply Fin.ext
  rw [ValueKit.rect_emb_unit_val]
  have := ht a
  show off t a + ((i a).val - off t a) = _
  omega

theorem rectAt_inj (h : Apart (S := S) off size) (t : T) (j : (⟨S.rank, size⟩ : Shape).Idx) (t' : T) (j' : (⟨S.rank, size⟩ : Shape).Idx)
    (he : (rectAt off size inb t).emb j = (rectAt off size inb t').emb j') : t = t' :=
  h _ t t' (rectAt_range off size inb t j) (fun a => by rw [he]; exact rectAt_range off size inb t' j' a)

theorem cut_split (hs : Covers (S := S) off size) (hi : Apart (S := S) off size) (X : Vec F S .f32) :
    hold c m X ⊢ bigSep Finset.univ fun t => hold c (cut m off size inb t) (fun j => X ((rectAt off size inb t).emb j)) := by
  unfold hold
  refine BIBase.Entails.trans (Entails.of_eq (split_map (ℓ := m.view.loc (c : Thread nD τ)) (View.emb m.view) (fun t => View.emb (cut m off size inb t).view)
    (fun t j => (rectAt off size inb t).emb j) (rectAt_surj off size inb hs) (rectAt_inj off size inb hi) (fun t j => rfl) _)) ?_
  refine bigSep_mono fun t _ => hold_of_read c (cut m off size inb t) _ _ ?_
  funext j
  exact congrFun (View.read_rep m.view X) ((rectAt off size inb t).emb j)

theorem cut_join (hs : Covers (S := S) off size) (hi : Apart (S := S) off size) (Y : T → Vec F ⟨S.rank, size⟩ .f32) :
    (bigSep Finset.univ fun t => hold c (cut m off size inb t) (Y t)) ⊢ iprop(∃ X, ⌜∀ t j, X ((rectAt off size inb t).emb j) = Y t j⌝ ∗ hold c m X) := by
  unfold hold
  refine BIBase.Entails.trans (join_map (ℓ := m.view.loc (c : Thread nD τ)) (View.emb m.view) (fun t => View.emb (cut m off size inb t).view)
    (fun t j => (rectAt off size inb t).emb j) (rectAt_surj off size inb hs) (rectAt_inj off size inb hi) (fun t j => rfl) m.view.junk (fun t => (cut m off size inb t).view.rep (Y t))) ?_
  iintro ⟨%g, %hg, H⟩
  iexists m.view.read (Elt F) g
  isplitr
  · ipureintro
    intro t j
    refine Eq.trans (congrArg (_root_.cast _) (hg t j)) ?_
    exact congrFun (View.read_rep (cut m off size inb t).view (Y t)) j
  · iapply (show (m.view.loc (c : Thread nD τ) ↦[Finset.univ.map m.view.emb]{fullShare} g : sProp (MM F)) ⊢ (m.view.loc (c : Thread nD τ) ↦[m.view.set]{fullShare} m.view.rep (m.view.read (Elt F) g)) from hold_of_read c m g _ rfl) $$ H

theorem cut_have (hs : Covers (S := S) off size) (hi : Apart (S := S) off size) :
    have_ (F := F) c m ⊢ bigSep Finset.univ fun t => have_ (F := F) c (cut m off size inb t) := by
  rw [show have_ (F := F) c m = iprop(∃ X, hold c m X) from rfl]
  iintro ⟨%X, H⟩
  iapply (BIBase.Entails.trans (cut_split m c off size inb hs hi X) (bigSep_mono fun t _ => have_of_hold c (cut m off size inb t) _)) $$ H

theorem have_cut (hs : Covers (S := S) off size) (hi : Apart (S := S) off size) (Y : T → Vec F ⟨S.rank, size⟩ .f32) :
    (bigSep Finset.univ fun t => hold c (cut m off size inb t) (Y t)) ⊢ have_ (F := F) c m := by
  unfold have_
  iintro H
  ihave H := (cut_join m c off size inb hs hi Y) $$ H
  icases H with ⟨%X, -, H⟩
  iexists X; iexact H

end Slices

/-- A squeezed memref's elements are the memref's. -/
theorem have_squeeze {sp : Space} {s s' : Shape} (c : Dev nD) (m : Memref sig .tc sp s .f32) (h : s.Squeezes s') :
    have_ (F := F) c (m.squeeze s' h) ⊢ have_ (F := F) c m := by
  unfold have_
  iintro ⟨%X, H⟩
  iexists m.view.read (Elt F) ((m.squeeze s' h).view.rep X)
  unfold hold
  iapply (show (m.view.loc (c : Thread nD τ) ↦[(m.squeeze s' h).view.set]{fullShare} ((m.squeeze s' h).view.rep X) : sProp (MM F)) ⊢ _ by
    rw [show (m.squeeze s' h).view.set = m.view.set from View.set_reshape _ _]
    exact hold_of_read c m _ _ rfl) $$ H
theorem squeeze_have {sp : Space} {s s' : Shape} (c : Dev nD) (m : Memref sig .tc sp s .f32) (h : s.Squeezes s') :
    have_ (F := F) c m ⊢ have_ (F := F) c (m.squeeze s' h) := by
  unfold have_
  iintro ⟨%X, H⟩
  iexists (m.squeeze s' h).view.read (Elt F) (m.view.rep X)
  unfold hold
  iapply (show (m.view.loc (c : Thread nD τ) ↦[m.view.set]{fullShare} (m.view.rep X) : sProp (MM F)) ⊢ _ by
    rw [← show (m.squeeze s' h).view.set = m.view.set from View.set_reshape _ _]
    exact hold_of_read c (m.squeeze s' h) _ _ rfl) $$ H

/-! ## The kernel's buffers -/

theorem two_in (Φ : Fin 2 → sProp (MM F)) : iprop(Φ 0 ∗ Φ 1) ⊢ bigSep Finset.univ Φ := Entails.of_eq (bigSep_fin_two Φ).symm
theorem two_out (Φ : Fin 2 → sProp (MM F)) : bigSep Finset.univ Φ ⊢ iprop(Φ 0 ∗ Φ 1) := Entails.of_eq (bigSep_fin_two Φ)
theorem have_open (c : Dev nD) {sp : Space} {sh : Shape} (m : Memref sig .tc sp sh .f32) : have_ (F := F) c m ⊢ iprop(∃ X, hold c m X) := .rfl

theorem tmp_covers : Covers (T := Fin 2) (S := S512x2048) (fun s => ![0, 1024 * s.val]) S512x1024.size := fun i => by
  have h0 : (i 0).val < 512 := (i 0).isLt
  have h1 : (i 1).val < 2048 := (i 1).isLt
  refine ⟨⟨(i 1).val / 1024, by omega⟩, Fin.forall_fin_two.2 ⟨⟨Nat.zero_le _, ?_⟩, ?_, ?_⟩⟩
  · show (i 0).val < 0 + 512; omega
  · show 1024 * ((i 1).val / 1024) ≤ (i 1).val; omega
  · show (i 1).val < 1024 * ((i 1).val / 1024) + 1024; omega
theorem tmp_apart : Apart (T := Fin 2) (S := S512x2048) (fun s => ![0, 1024 * s.val]) S512x1024.size := fun i t t' h h' => by
  have a : 1024 * t.val ≤ (i 1).val ∧ (i 1).val < 1024 * t.val + 1024 := h 1
  have b : 1024 * t'.val ≤ (i 1).val ∧ (i 1).val < 1024 * t'.val + 1024 := h' 1
  apply Fin.ext; omega

theorem tmp_have (c : Dev nD) (d : Bool) : have_ (F := F) c (tmpM d) ⊢ iprop(have_ c (tmpV d 0) ∗ have_ c (tmpV d 1)) :=
  BIBase.Entails.trans (cut_have (tmpM d) c (fun s : Fin 2 => ![0, 1024 * s.val]) S512x1024.size inbTmp tmp_covers tmp_apart) (Entails.of_eq (bigSep_fin_two _))
theorem have_tmp (c : Dev nD) (d : Bool) : iprop(have_ (F := F) c (tmpV d 0) ∗ have_ c (tmpV d 1)) ⊢ have_ c (tmpM d) := by
  rw [show have_ (F := F) c (tmpV d 0) = iprop(∃ X, hold c (tmpV d 0) X) from rfl, show have_ (F := F) c (tmpV d 1) = iprop(∃ X, hold c (tmpV d 1) X) from rfl]
  iintro ⟨⟨%X, H⟩, ⟨%X', H'⟩⟩
  iapply (have_cut (tmpM d) c (fun s : Fin 2 => ![0, 1024 * s.val]) S512x1024.size inbTmp tmp_covers tmp_apart ![X, X'])
  iapply (two_in (F := F) _)
  isplitl [H]; · iexact H
  iexact H'

theorem wide_covers : Covers (T := Fin 2) (S := S2x512x2048) (fun b => ![b.val, 0, 0]) S1x512x2048.size := fun i => by
  have h0 : (i 0).val < 2 := (i 0).isLt
  have h1 : (i 1).val < 512 := (i 1).isLt
  have h2 : (i 2).val < 2048 := (i 2).isLt
  refine ⟨⟨(i 0).val, h0⟩, ?_⟩
  intro a
  match a with
  | 0 => exact ⟨le_refl _, Nat.lt_succ_self _⟩
  | 1 => exact ⟨Nat.zero_le _, by show (i 1).val < 0 + 512; omega⟩
  | 2 => exact ⟨Nat.zero_le _, by show (i 2).val < 0 + 2048; omega⟩
theorem wide_apart : Apart (T := Fin 2) (S := S2x512x2048) (fun b => ![b.val, 0, 0]) S1x512x2048.size := fun i t t' h h' => by
  have a : t.val ≤ (i 0).val ∧ (i 0).val < t.val + 1 := h 0
  have b : t'.val ≤ (i 0).val ∧ (i 0).val < t'.val + 1 := h' 0
  apply Fin.ext; omega

theorem wide_have {sp : Space} (m : Memref sig .tc sp S2x512x2048 .f32) (c : Dev nD) : have_ (F := F) c m ⊢ iprop(have_ c (wideV m 0) ∗ have_ c (wideV m 1)) :=
  BIBase.Entails.trans (cut_have m c (fun b : Fin 2 => ![b.val, 0, 0]) S1x512x2048.size inbWide wide_covers wide_apart)
    (BIBase.Entails.trans (Entails.of_eq (bigSep_fin_two _)) (BIClass.sep_mono (squeeze_have c _ _) (squeeze_have c _ _)))
theorem have_wide {sp : Space} (m : Memref sig .tc sp S2x512x2048 .f32) (c : Dev nD) : iprop(have_ (F := F) c (wideV m 0) ∗ have_ c (wideV m 1)) ⊢ have_ c m := by
  iintro ⟨H, H'⟩
  ihave H := (have_squeeze c (m.slice (wideR 0) (fun _ => rfl)) _) $$ H
  ihave H' := (have_squeeze c (m.slice (wideR 1) (fun _ => rfl)) _) $$ H'
  ihave H := (have_open c _) $$ H
  ihave H' := (have_open c _) $$ H'
  icases H with ⟨%X, H⟩
  icases H' with ⟨%X', H'⟩
  iapply (have_cut m c (fun b : Fin 2 => ![b.val, 0, 0]) S1x512x2048.size inbWide wide_covers wide_apart ![X, X'])
  iapply (two_in (F := F) _)
  isplitl [H]; · iexact H
  iexact H'
theorem slot_have {sp : Space} (m : Memref sig .tc sp S2x512x2048 .f32) (c : Dev nD) (b : Fin 2) :
    have_ (F := F) c (wideV m b) ⊢ iprop(have_ c (slotV m b 0) ∗ have_ c (slotV m b 1)) := by
  rw [show have_ (F := F) c (wideV m b) = iprop(∃ X, hold c (wideV m b) X) from rfl]
  iintro ⟨%X, H⟩
  iapply (BIBase.Entails.trans (hold_split m c b X) (BIClass.sep_mono (have_of_hold c _ _) (have_of_hold c _ _))) $$ H
theorem have_slot {sp : Space} (m : Memref sig .tc sp S2x512x2048 .f32) (c : Dev nD) (b : Fin 2) :
    iprop(have_ (F := F) c (slotV m b 0) ∗ have_ c (slotV m b 1)) ⊢ have_ c (wideV m b) := by
  unfold have_
  iintro ⟨⟨%X, H⟩, ⟨%X', H'⟩⟩
  iexists joinW X X'
  iapply (hold_join m c b ![X, X'])
  isplitl [H]; · iexact H
  iexact H'

/-- The output's blocks: a chunk, a direction, a half. -/
abbrev Blk : Type := Dev nD × Bool × Fin 2
abbrev blkOff (t : Blk) : Fin 2 → ℕ := ![512 * t.1.val, 2048 * t.2.1.toNat + 1024 * t.2.2.val]

theorem blk_covers : Covers (T := Blk) (S := S8192x4096) blkOff S512x1024.size := fun i => by
  have h0 : (i 0).val < 8192 := (i 0).isLt
  have h1 : (i 1).val < 4096 := (i 1).isLt
  refine ⟨((⟨(i 0).val / 512, by omega⟩ : Fin 16), decide (2048 ≤ (i 1).val), (⟨(i 1).val % 2048 / 1024, by omega⟩ : Fin 2)), Fin.forall_fin_two.2 ⟨?_, ?_⟩⟩
  · show 512 * ((i 0).val / 512) ≤ (i 0).val ∧ (i 0).val < 512 * ((i 0).val / 512) + 512
    omega
  · show 2048 * (decide (2048 ≤ (i 1).val)).toNat + 1024 * ((i 1).val % 2048 / 1024) ≤ (i 1).val ∧ (i 1).val < 2048 * (decide (2048 ≤ (i 1).val)).toNat + 1024 * ((i 1).val % 2048 / 1024) + 1024
    by_cases h : 2048 ≤ (i 1).val
    · rw [decide_eq_true h]; simp only [Bool.toNat_true]; omega
    · rw [decide_eq_false h]; simp only [Bool.toNat_false]; omega
theorem blk_apart : Apart (T := Blk) (S := S8192x4096) blkOff S512x1024.size := fun i t t' h h' => by
  obtain ⟨ch, d, s⟩ := t
  obtain ⟨ch', d', s'⟩ := t'
  have a0 : 512 * ch.val ≤ (i 0).val ∧ (i 0).val < 512 * ch.val + 512 := h 0
  have b0 : 512 * ch'.val ≤ (i 0).val ∧ (i 0).val < 512 * ch'.val + 512 := h' 0
  have a1 : 2048 * d.toNat + 1024 * s.val ≤ (i 1).val ∧ (i 1).val < 2048 * d.toNat + 1024 * s.val + 1024 := h 1
  have b1 : 2048 * d'.toNat + 1024 * s'.val ≤ (i 1).val ∧ (i 1).val < 2048 * d'.toNat + 1024 * s'.val + 1024 := h' 1
  have hs := s.isLt
  have hs' := s'.isLt
  have e0 : ch = ch' := Fin.ext (by omega)
  have e1 : d = d' := by cases d <;> cases d' <;> simp only [Bool.toNat_true, Bool.toNat_false] at a1 b1 <;> first | rfl | (exfalso; omega)
  subst e0 e1
  have e2 : s = s' := Fin.ext (by omega)
  subst e2; rfl

theorem out_have (c : Dev nD) : have_ (F := F) c oM ⊢ bigSep Finset.univ fun t : Blk => have_ (F := F) c (oBlk t.2.1 t.2.2 t.1) :=
  cut_have oM c blkOff S512x1024.size (fun t => inbBlk t.2.1 t.2.2 t.1) blk_covers blk_apart

/-- What the output reads, its blocks read. -/
def IsOut (Y : Blk → Vec F S512x1024 .f32) (X : Vec F S8192x4096 .f32) : Prop :=
  ∀ t j, X ((rectAt (S := S8192x4096) blkOff S512x1024.size (fun t : Blk => inbBlk t.2.1 t.2.2 t.1) t).emb j) = Y t j

theorem out_join (c : Dev nD) (Y : Blk → Vec F S512x1024 .f32) :
    (bigSep Finset.univ fun t : Blk => hold c (oBlk t.2.1 t.2.2 t.1) (Y t)) ⊢ iprop(∃ X, ⌜IsOut Y X⌝ ∗ hold c oM X) :=
  cut_join oM c blkOff S512x1024.size (fun t => inbBlk t.2.1 t.2.2 t.1) blk_covers blk_apart Y

/-! ## The device's own chunk -/

theorem own_rect (d : Bool) (s : Fin 2) (c : Dev nD) (off : Fin 2 → ℕ) (h : ∀ a, off a + S512x2048.size a ≤ S8192x4096.size a)
    (h0 : off 0 = 512 * c.val) (h1 : off 1 = 2048 * d.toNat) (j : S512x1024.Idx) :
    (Rect.unit (s := S8192x4096) ![512 * c.val, 2048 * d.toNat + 1024 * s.val] S512x1024.size (inbBlk d s c)).emb j
      = (Rect.unit (s := S8192x4096) off S512x2048.size h).emb (wideIdx s j) := by
  funext a; apply Fin.ext
  rw [ValueKit.rect_emb_unit_val, ValueKit.rect_emb_unit_val]
  revert a
  refine Fin.forall_fin_two.2 ⟨?_, ?_⟩
  · show 512 * c.val + (j 0).val = off 0 + (j 0).val
    rw [h0]
  · show 2048 * d.toNat + 1024 * s.val + (j 1).val = off 1 + (1024 * s.val + (j 1).val)
    rw [h1]; omega

theorem ownRows_is (d : Bool) (c : Dev nD) : ∃ (off : Fin 2 → ℕ) (h : ∀ a, off a + S512x2048.size a ≤ S8192x4096.size a),
    ownRows d c = oM.slice (Rect.unit (s := S8192x4096) off S512x2048.size h) (fun _ => rfl) ∧
      ∀ (s : Fin 2) (j : S512x1024.Idx), (oBlk d s c).view.emb j = (View.slice oM.view (Rect.unit (s := S8192x4096) off S512x2048.size h)).emb (wideIdx s j) := by
  cases d
  · exact ⟨_, _, rfl, fun s j => own_rect false s c _ _ (congrFun (k0_off13_eq c) 0) (congrFun (k0_off13_eq c) 1) j⟩
  · exact ⟨_, _, rfl, fun s j => own_rect true s c _ _ (congrFun (k0_off14_eq c) 0) (congrFun (k0_off14_eq c) 1) j⟩

theorem own_split (d : Bool) (c : Dev nD) (X : Vec F S512x2048 .f32) :
    hold c (ownRows d c) X ⊢ iprop(hold c (oBlk d 0 c) (halfP 0 X) ∗ hold c (oBlk d 1 c) (halfP 1 X)) := by
  refine BIBase.Entails.trans ?_ (Entails.of_eq (bigSep_fin_two (fun s => hold c (oBlk d s c) (halfP s X))))
  obtain ⟨off, h, e, he⟩ := ownRows_is d c
  rw [e]
  unfold hold
  refine BIBase.Entails.trans (Entails.of_eq (split_map (ℓ := oM.view.loc (c : Thread nD τ)) (View.emb (View.slice oM.view (Rect.unit (s := S8192x4096) off S512x2048.size h))) (fun s => View.emb (oBlk d s c).view) wideIdx wideIdx_surj wideIdx_inj
    (fun s j => he s j) _)) ?_
  refine bigSep_mono fun s _ => hold_of_read c (oBlk d s c) _ _ ?_
  funext j
  rw [halfP_eq, View.read_apply, he]
  exact congrFun (View.read_rep (View.slice oM.view (Rect.unit (s := S8192x4096) off S512x2048.size h)) X) (wideIdx s j)

theorem own_have (d : Bool) (c : Dev nD) : iprop(have_ (F := F) c (oBlk d 0 c) ∗ have_ c (oBlk d 1 c)) ⊢ have_ c (ownRows d c) := by
  obtain ⟨off, h, e, he⟩ := ownRows_is d c
  rw [e]
  unfold have_
  iintro ⟨⟨%X, H⟩, ⟨%X', H'⟩⟩
  iexists joinW X X'
  have hj : (bigSep Finset.univ fun s => hold c (oBlk d s c) (![X, X'] s)) ⊢
      iprop(∃ g, ⌜∀ (s : Fin 2) (j : S512x1024.Idx), g ((oBlk d s c).view.emb j) = (oBlk d s c).view.rep (![X, X'] s) ((oBlk d s c).view.emb j)⌝
        ∗ (oM.view.loc (c : Thread nD τ) ↦[Finset.univ.map (View.emb (View.slice oM.view (Rect.unit (s := S8192x4096) off S512x2048.size h)))]{fullShare} g : sProp (MM F))) := by
    unfold hold
    exact join_map (ℓ := oM.view.loc (c : Thread nD τ)) (View.emb (View.slice oM.view (Rect.unit (s := S8192x4096) off S512x2048.size h))) (fun s => View.emb (oBlk d s c).view) wideIdx wideIdx_surj wideIdx_inj
      (fun s j => he s j) ((View.slice oM.view (Rect.unit (s := S8192x4096) off S512x2048.size h)).rep (joinW X X')) (fun s => (oBlk d s c).view.rep (![X, X'] s))
  ihave H := (two_in (fun s => hold c (oBlk d s c) (![X, X'] s))) $$ [H H']
  · isplitl [H]; · iexact H
    iexact H'
  ihave H := hj $$ H
  icases H with ⟨%g, %hg, H⟩
  iapply (show (oM.view.loc (c : Thread nD τ) ↦[Finset.univ.map (View.emb (View.slice oM.view (Rect.unit (s := S8192x4096) off S512x2048.size h)))]{fullShare} g : sProp (MM F)) ⊢ _ from
    hold_of_read c (oM.slice (Rect.unit (s := S8192x4096) off S512x2048.size h) (fun _ => rfl)) g (joinW X X') ?_) $$ H
  funext a
  obtain ⟨s, j, rfl⟩ := wideIdx_surj a
  refine Eq.trans ?_ (joinW_wide ![X, X'] s j).symm
  rw [View.read_apply]
  show _root_.cast _ (g ((View.slice oM.view (Rect.unit (s := S8192x4096) off S512x2048.size h)).emb (wideIdx s j))) = _
  rw [← he, hg]
  exact congrFun (View.read_rep (oBlk d s c).view (![X, X'] s)) j

end Cert.KernelIdeal.Ring

end
-- ==== Proof.Ops.lean ====
/-
The rules for the loads and the stores: the partial products of an iteration, and the sum written to its slot.
-/
module

public import proofs.«01_k».proof.Proof.Buffers

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The partial products -/

theorem inbX : ∀ (ch : Dev nD) (a), (![512 * ch.val, 0] : Fin 2 → ℕ) a + S512x512.size a ≤ S8192x512.size a := by decide
theorem inbW : ∀ (d : Bool) (a), (![0, 2048 * d.toNat] : Fin 2 → ℕ) a + S512x2048.size a ≤ S512x4096.size a := by decide

/-- Chunk `ch`'s rows of the activations, and direction `d`'s columns of the weights. -/
def rowsOf (X : Vec F S8192x512 .f32) (ch : Dev nD) : Vec F S512x512 .f32 := VecWindow.window X ![512 * ch.val, 0] S512x512.size (inbX ch)
def colsOf (W : Vec F S512x4096 .f32) (d : Bool) : Vec F S512x2048 .f32 := VecWindow.window W ![0, 2048 * d.toNat] S512x2048.size (inbW d)

/-- The partial product of chunk `ch` and direction `d` out of one device's operands. -/
def part (X : Vec F S8192x512 .f32) (W : Vec F S512x4096 .f32) (d : Bool) (ch : Dev nD) : FVec F S512x2048 .f32 := dotP (rowsOf X ch) (colsOf W d)

theorem wp_load_at (c : Dev nD) {cs : CoreSpace} {S : Shape} (m : Memref sig .tc cs S .f32) (X : Vec F S .f32) (off off' size : Fin S.rank → ℕ)
    (inb : ∀ a, off a + size a ≤ S.size a) (e : off = off') (inb' : ∀ a, off' a + size a ≤ S.size a) (hl : m.view.LoadsAt (Rect.unit (s := S) off size inb).toLoadRect)
    (k : Vec F ⟨S.rank, size⟩ .f32 → KProg F) (Q : PUnit → sProp (MM F)) :
    hold c m X ⊢ iprop((hold c m X -∗ run c (k (VecWindow.window X off' size inb')) Q) -∗ run c (.op (.load m (Rect.unit (s := S) off size inb).toLoadRect hl) k) Q) := by
  rw [← View.readAt_rep_unit m.view X inb e inb']
  unfold hold
  exact wp_load 𝒱₀ (c : Thread nD τ) none Set.univ (m := m) (View.setOn_subset_set _ _)

theorem chunkOff (d : Bool) (c : Dev nD) (i : ℕ) (hi : i < 15) :
    (match d with | false => k0_off7 c (BitVec.ofNat 32 (Fin.ofNat 15 i).val) | true => k0_off8 c (BitVec.ofNat 32 (Fin.ofNat 15 i).val)) = ![512 * (up d c (i + 2)).val, 0] := by
  have hv : (Fin.ofNat 15 i).val = i := Nat.mod_eq_of_lt hi
  cases d
  · refine (k0_off7_eq c _).trans ?_
    rw [sub_val', hv]
  · refine (k0_off8_eq c _).trans ?_
    rw [add_val', hv]

theorem wp_dotsK (c : Dev nD) (i : ℕ) (hi : i < 15) (X : Vec F S8192x512 .f32) (W : Vec F S512x4096 .f32)
    (k : FVec F S512x2048 .f32 → FVec F S512x2048 .f32 → KProg F) (Q : PUnit → sProp (MM F)) :
    iprop(hold c xM X ∗ hold c wM W) ⊢ iprop(((hold c xM X ∗ hold c wM W) -∗
      run c (k (part X W false (up false c (i + 2))) (part X W true (up true c (i + 2)))) Q) -∗ run c (dotsK c i k) Q) := by
  unfold dotsK
  iintro ⟨Hx, Hw⟩ Hk
  iapply (wp_load_at c xM X _ _ _ _ (chunkOff false c i hi) (inbX _) _ _ _) $$ Hx
  iintro Hx
  iapply (wp_load_at c wM W _ _ _ _ rfl (inbW false) _ _ _) $$ Hw
  iintro Hw
  iapply (wp_load_at c xM X _ _ _ _ (chunkOff true c i hi) (inbX _) _ _ _) $$ Hx
  iintro Hx
  iapply (wp_load_at c wM W _ _ _ _ rfl (inbW true) _ _ _) $$ Hw
  iintro Hw
  iapply Hk
  isplitl [Hx]; · iexact Hx
  iexact Hw

/-! ## Writing a slot -/

/-- A store through a unit-axis slice of a memref writes the squeezed slice. -/
theorem wp_store_squeezed (c : Dev nD) {cs : CoreSpace} {S s' : Shape} (m : Memref sig .tc cs S .f32) (r : Rect S) (hr : ∀ a, r.stride a = 1) (hq : r.shape.Squeezes s')
    (hc : s'.numel = r.shape.numel) (hl : m.view.LoadsAt r.toLoadRect) (w : Vec F r.shape .f32) (Y : Vec F s' .f32) (hY : shapeCast s' w hc = Y)
    (hx : (m.access r).Stores Finset.univ) (hm) (k : KProg F) (Q : PUnit → sProp (MM F)) :
    have_ c ((m.slice r hr).squeeze s' hq) ⊢ iprop((hold c ((m.slice r hr).squeeze s' hq) Y -∗ run c k Q) -∗
      run c (.op (.load m r.toLoadRect hl) fun _ => .op (.store m r w Finset.univ hx hm) fun _ => k) Q) := by
  unfold have_
  iintro ⟨%Z, H⟩ Hk
  unfold hold
  have hset : ((m.slice r hr).squeeze s' hq).view.set = (m.access r).set := View.set_reshape _ _
  iapply (wp_load_rect 𝒱₀ (c : Thread nD τ) none Set.univ (m := m) (r := r) hset.ge) $$ H
  iintro H
  iapply (wp_store 𝒱₀ (c : Thread nD τ) none Set.univ (m := m) (r := r) (Mk := Finset.univ) hset.ge) $$ H
  iintro H
  iapply Hk
  iapply (show _ ⊢ (((m.slice r hr).squeeze s' hq).view.loc (c : Thread nD τ) ↦[((m.slice r hr).squeeze s' hq).view.set]{fullShare} ((m.slice r hr).squeeze s' hq).view.rep Y) from hold_of_read c ((m.slice r hr).squeeze s' hq) _ Y ?_) $$ H
  rw [← hY]
  exact congrArg (fun w => shapeCast s' w hc) (View.read_write_univ (v := m.access r) _ w)

/-- A load of a whole slice. -/
theorem wp_load_slice (c : Dev nD) {cs : CoreSpace} {S : Shape} (m : Memref sig .tc cs S .f32) (r : Rect S) (hr : ∀ a, r.stride a = 1) (X : Vec F r.shape .f32) (hl : m.view.LoadsAt r.toLoadRect)
    (k : Vec F r.shape .f32 → KProg F) (Q : PUnit → sProp (MM F)) :
    hold c (m.slice r hr) X ⊢ iprop((hold c (m.slice r hr) X -∗ run c (k X) Q) -∗ run c (.op (.load m r.toLoadRect hl) k) Q) := by
  conv in k X => rw [← View.read_rep (m.access r) X]
  unfold hold
  exact wp_load_rect 𝒱₀ (c : Thread nD τ) none Set.univ (m := m) (r := r) (Finset.Subset.refl _)

/-- Fetching a landed block and adding it: the sum is in its slot. -/
theorem wp_addK (d : Bool) (s : Fin 2) (c : Dev nD) (i : ℕ) (hi : i < 15) (p : FVec F S512x2048 .f32) (V : Vec F S512x1024 .f32)
    (O : CellTallies nD τ sig Unit) (k : KProg F) (Q : PUnit → sProp (MM F)) :
    iprop(hold c (oBlk d s (up d c (i + 2))) V ∗ have_ c (tmpV d s) ∗ have_ c (slotV (accM d) (par (i + 1)) s)
        ∗ semVal ((c : Thread nD τ), .dma (fetchSem d)) 0 ∗ owesE c O ∗ MayWait (c : Thread nD τ) (.dma (fetchSem d)) () O)
      ⊢ iprop(((hold c (oBlk d s (up d c (i + 2))) V ∗ have_ c (tmpV d s) ∗ hold c (slotV (accM d) (par (i + 1)) s) (accB i s p V)
        ∗ semVal ((c : Thread nD τ), .dma (fetchSem d)) 0 ∗ owesE c O) -∗ run c k Q) -∗ run c (addK d s c i p k) Q) := by
  unfold addK
  rw [landBlk_eq d s c i hi]
  iintro ⟨Hb, Ht, Ha, Hv, HO, Hm⟩ Hk
  iapply (wp_copyK c (fetchSem d) _ (tmpV d s) _ (by decide) V O _ Q) $$ [Hb Ht Hv HO Hm]
  · isplitl [Hb]; · iexact Hb
    isplitl [Ht]; · iexact Ht
    isplitl [Hv]; · iexact Hv
    isplitl [HO] <;> iassumption
  iintro ⟨Hb, Ht, Hv, HO⟩
  iapply (wp_load_slice c (tmpM d) (tmpR s) (fun _ => rfl) V _ _ Q) $$ Ht
  iintro Ht
  iapply (wp_store_squeezed c (accM d) (slotR (par (i + 1)) s) (fun _ => rfl) squeezes_S1x512x1024_S512x1024 shapeCasts_S1x512x1024_S512x1024 _ _ (accB i s p V) (shapeCast_shapeCast _ _ _) _ _ k Q) $$ Ha
  iintro Ha
  iapply Hk
  isplitl [Hb]; · iexact Hb
  isplitl [Ht]; · iapply (have_of_hold c (tmpV d s) V) $$ Ht
  isplitl [Ha]; · iexact Ha
  isplitl [Hv] <;> iassumption

/-- The first partial product. -/
theorem wp_seedK (d : Bool) (c : Dev nD) (X : Vec F S8192x512 .f32) (W : Vec F S512x4096 .f32) (k : KProg F) (Q : PUnit → sProp (MM F)) :
    iprop(hold c xM X ∗ hold c wM W ∗ have_ c (wideV (accM d) 0))
      ⊢ iprop(((hold c xM X ∗ hold c wM W ∗ hold c (wideV (accM d) 0) (part X W d (up d c 1))) -∗ run c k Q) -∗ run c (seedK d c k) Q) := by
  iintro ⟨Hx, Hw, Ha⟩ Hk
  cases d
  · unfold seedK
    iapply (wp_load_at c xM X _ _ _ _ ((k0_off1_eq c).trans (by rw [show (c.val + 15) % 16 = (up false c 1).val by revert c; decide])) (inbX (up false c 1)) _ _ _) $$ Hx
    iintro Hx
    iapply (wp_load_at c wM W _ _ _ _ rfl (inbW false) _ _ _) $$ Hw
    iintro Hw
    iapply (wp_store_squeezed c (accM false) (wideR 0) (fun _ => rfl) squeezes_S1x512x2048_S512x2048 shapeCasts_S1x512x2048_S512x2048 _ _ (part X W false (up false c 1)) (shapeCast_shapeCast _ _ _) _ _ k Q) $$ Ha
    iintro Ha
    iapply Hk
    isplitl [Hx]; · iexact Hx
    isplitl [Hw] <;> iassumption
  · unfold seedK
    iapply (wp_load_at c xM X _ _ _ _ ((k0_off2_eq c).trans (by rw [show (c.val + 1) % 16 = (up true c 1).val by revert c; decide])) (inbX (up true c 1)) _ _ _) $$ Hx
    iintro Hx
    iapply (wp_load_at c wM W _ _ _ _ rfl (inbW true) _ _ _) $$ Hw
    iintro Hw
    iapply (wp_store_squeezed c (accM true) (wideR 0) (fun _ => rfl) squeezes_S1x512x2048_S512x2048 shapeCasts_S1x512x2048_S512x2048 _ _ (part X W true (up true c 1)) (shapeCast_shapeCast _ _ _) _ _ k Q) $$ Ha
    iintro Ha
    iapply Hk
    isplitl [Hx]; · iexact Hx
    isplitl [Hw] <;> iassumption

end Cert.KernelIdeal.Ring

end
-- ==== Proof.Sched.lean ====
/-
The ring's values and its schedule: what each hop carries, and what it hands over with it.

A chain is a direction `d` and a half `s`; hop `j` of it leaves every device at once. `val j c d s` is the block device `c`
sends as hop `j`: for the reduce-scatter its running sum, then the finished block, passed on. With hop `j` of device `e`
travel the places its block's chunk has on the devices behind `e` (`carried`): a device hands its place on once it has read
what landed there, and fifteen hops later it reaches the neighbour that writes there next.
-/
module

public import proofs.«01_k».proof.Proof.Ops

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]
variable (X : Dev nD → Vec F S8192x512 .f32) (W : Dev nD → Vec F S512x4096 .f32)

/-! ## The values -/

/-- The block device `c` sends as hop `j`. -/
def val : ℕ → Dev nD → Bool → Fin 2 → Vec F S512x1024 .f32
  | 0 => fun c d s => halfP s (part (X c) (W c) d (up d c 1))
  | j + 1 => fun c d s =>
    if j < 15 then accB j s (part (X c) (W c) d (up d c (j + 2))) (val j (up d c 1) d s) else val j (up d c 1) d s

theorem val_rs (j : ℕ) (h : j < 15) (c : Dev nD) (d : Bool) (s : Fin 2) :
    val X W (j + 1) c d s = accB j s (part (X c) (W c) d (up d c (j + 2))) (val X W j (up d c 1) d s) := by
  show (if j < 15 then _ else _) = _
  rw [if_pos h]
theorem val_ag (j : ℕ) (h : 15 ≤ j) (c : Dev nD) (d : Bool) (s : Fin 2) : val X W (j + 1) c d s = val X W j (up d c 1) d s := by
  show (if j < 15 then _ else _) = _
  rw [if_neg (by omega)]
theorem val_fin (h : ℕ) (c : Dev nD) (d : Bool) (s : Fin 2) : val X W (15 + h) c d s = val X W 15 (up d c h) d s := by
  induction h generalizing c with
  | zero => rw [up_zero]
  | succ h ih => rw [show 15 + (h + 1) = 15 + h + 1 from rfl, val_ag X W _ (by omega), ih, up_up, Nat.add_comm 1 h]

/-! ## The order of the hops -/

/-- The hops in program order: by iteration, half, direction. -/
abbrev wOf (d : Bool) (s : Fin 2) (j : ℕ) : ℕ := 4 * j + 2 * s.val + d.toNat
def dOf (w : ℕ) : Bool := decide (w % 2 = 1)
def sOf (w : ℕ) : Fin 2 := Fin.ofNat 2 (w / 2)

theorem dOf_w (d : Bool) (s : Fin 2) (j : ℕ) : dOf (wOf d s j) = d := by
  cases d
  · exact decide_eq_false (by show ¬ (4 * j + 2 * s.val + 0) % 2 = 1; omega)
  · exact decide_eq_true (by show (4 * j + 2 * s.val + 1) % 2 = 1; omega)
theorem sOf_w (d : Bool) (s : Fin 2) (j : ℕ) : sOf (wOf d s j) = s := by
  apply Fin.ext
  have := s.isLt
  cases d
  · show (4 * j + 2 * s.val + 0) / 2 % 2 = s.val; omega
  · show (4 * j + 2 * s.val + 1) / 2 % 2 = s.val; omega
theorem jOf_w (d : Bool) (s : Fin 2) (j : ℕ) : wOf d s j / 4 = j := by
  have := s.isLt
  cases d
  · show (4 * j + 2 * s.val + 0) / 4 = j; omega
  · show (4 * j + 2 * s.val + 1) / 4 = j; omega
theorem w_lt (d : Bool) (s : Fin 2) (j : ℕ) (h : j < 30) : wOf d s j < 120 := by
  have := s.isLt
  cases d
  · show 4 * j + 2 * s.val + 0 < 120; omega
  · show 4 * j + 2 * s.val + 1 < 120; omega

/-- Device `c`'s receive cell of hop `w`, and the neighbour's, where device `c`'s hop `w` lands. -/
abbrev rCell (c : Dev nD) (w : ℕ) : GSem nD τ sig := recvCell c (dOf w) (sOf w) (w / 4)
abbrev tCell (c : Dev nD) (w : ℕ) : GSem nD τ sig := recvCell (toDev (dOf w) c) (dOf w) (sOf w) (w / 4)

theorem rCell_w (c : Dev nD) (d : Bool) (s : Fin 2) (j : ℕ) : rCell c (wOf d s j) = recvCell c d s j := by
  show recvCell c (dOf _) (sOf _) _ = _; rw [dOf_w, sOf_w, jOf_w]
theorem tCell_w (c : Dev nD) (d : Bool) (s : Fin 2) (j : ℕ) : tCell c (wOf d s j) = recvCell (toDev d c) d s j := by
  show recvCell (toDev (dOf _) c) (dOf _) (sOf _) _ = _; rw [dOf_w, sOf_w, jOf_w]

abbrev barCell (c : Dev nD) : GSem nD τ sig := ((c : Thread nD τ), .reg barSem)

/-- The scheduled semaphores: the barrier's, and one per hop. -/
abbrev csem : Option (Fin 120) → SemLoc sig
  | none => .reg barSem
  | some w => .dma (recvSem (dOf w.val) (sOf w.val) (w.val / 4))
abbrev kcell (ck : Dev nD × Option (Fin 120)) : GSem nD τ sig := ((ck.1 : Thread nD τ), csem ck.2)

theorem recvSem_val : ∀ (d : Bool) (s : Fin 2) (j : Fin 30), (recvSem d s j.val).val = 6 + 64 * d.toNat + 2 * j.val + s.val := by decide

theorem csem_val (w : Fin 120) : (recvSem (dOf w.val) (sOf w.val) (w.val / 4)).val = 6 + 64 * (w.val % 2) + 2 * (w.val / 4) + w.val / 2 % 2 := by
  have h := recvSem_val (dOf w.val) (sOf w.val) ⟨w.val / 4, by omega⟩
  rw [h]
  show 6 + 64 * (decide (w.val % 2 = 1)).toNat + 2 * (w.val / 4) + w.val / 2 % 2 = _
  by_cases h : w.val % 2 = 1
  · rw [decide_eq_true h, h]; rfl
  · rw [decide_eq_false h, show w.val % 2 = 0 by omega]; rfl

theorem csem_injective : Function.Injective csem := by
  rintro (_ | w) (_ | w') h
  · rfl
  · cases h
  · cases h
  · have e : (recvSem (dOf w.val) (sOf w.val) (w.val / 4)).val = (recvSem (dOf w'.val) (sOf w'.val) (w'.val / 4)).val := by
      have := SemLoc.dma.inj h
      rw [this]
    rw [csem_val, csem_val] at e
    have := w.isLt
    have := w'.isLt
    congr 1; apply Fin.ext; omega
theorem kcell_injective : Function.Injective kcell := by
  rintro ⟨c, k⟩ ⟨c', k'⟩ h
  have h1 : c = c' := by have := congrArg (fun g : GSem nD τ sig => g.1.1) h; exact this
  have h2 : csem k = csem k' := congrArg Prod.snd h
  rw [h1, csem_injective h2]

/-- Which scheduled semaphore a location is. -/
def cxOf (sm : SemLoc sig) : Option (Option (Fin 120)) := open Classical in if h : ∃ k, csem k = sm then some h.choose else none
theorem cxOf_csem (k : Option (Fin 120)) : cxOf (csem k) = some k := by
  unfold cxOf
  have h : ∃ k', csem k' = csem k := ⟨k, rfl⟩
  rw [dif_pos h]
  exact congrArg some (csem_injective h.choose_spec)
theorem cxOf_bar : cxOf (.reg barSem) = some none := cxOf_csem none
theorem cxOf_recv (w : ℕ) (h : w < 120) : cxOf (.dma (recvSem (dOf w) (sOf w) (w / 4))) = some (some ⟨w, h⟩) := cxOf_csem (some ⟨w, h⟩)
theorem cxOf_ne (sm : SemLoc sig) (h : ∀ k, csem k ≠ sm) : cxOf sm = none := by
  unfold cxOf
  exact dif_neg (fun ⟨k, hk⟩ => h k hk)

/-! ## What the hops hand over -/

/-- The places of chunk `up e (j + 1)` that travel with hop `j` of device `e`. -/
def carried (e : Dev nD) (d : Bool) (s : Fin 2) (j : ℕ) : sProp (MM F) :=
  bigSep (Finset.Ico (j - 14) (min j 15)) fun u => have_ (up d e u) (oBlk d s (up d e (j + 1)))

/-- What hop `j` leaves at its receiver `r`. -/
def recvPay (r : Dev nD) (d : Bool) (s : Fin 2) (j : ℕ) : sProp (MM F) :=
  iprop(hold r (oBlk d s (up d r (j + 2))) (val X W j (up d r 1) d s) ∗ carried (up d r 1) d s j)

/-- The neighbour's places for the reduce-scatter hops from `m` on of one chain. -/
def dests (c : Dev nD) (d : Bool) (s : Fin 2) (m : ℕ) : sProp (MM F) :=
  bigSep (Finset.Ico m 16) fun m => have_ (toDev d c) (oBlk d s (up d c (m + 1)))

/-- What the neighbour direction `d` sends to hands `c` at the barrier: its output's columns of that direction. -/
def barPay (c : Dev nD) (d : Bool) : sProp (MM F) := iprop(dests c d 0 0 ∗ dests c d 1 0)

instance carried_storable (e : Dev nD) (d : Bool) (s : Fin 2) (j : ℕ) : BI.Storable (upEmb : UEmb _ (MM F)) (carried e d s j) := by unfold carried; infer_instance
instance dests_storable (e : Dev nD) (d : Bool) (s : Fin 2) (j : ℕ) : BI.Storable (upEmb : UEmb _ (MM F)) (dests e d s j) := by unfold dests; infer_instance
instance recvPay_storable (e : Dev nD) (d : Bool) (s : Fin 2) (j : ℕ) : BI.Storable (upEmb : UEmb _ (MM F)) (recvPay X W e d s j) := by unfold recvPay; infer_instance
instance barPay_storable (e : Dev nD) (d : Bool) : BI.Storable (upEmb : UEmb _ (MM F)) (barPay (F := F) e d) := by unfold barPay; infer_instance

/-- The schedule: every cell has one round; a barrier two duties of one unit, a hop's receive cell one of the block's credit. -/
def ringRd : Rounds.Schedule (GSem nD τ sig) Bool (MM F) where
  duties g r := if r = 0 ∧ g.1.2 = .tc then (match cxOf g.2 with | some none => Finset.univ | some (some _) => {false} | none => ∅) else ∅
  unitless _ := False
  amount g _ _ := match cxOf g.2 with | some none => 1 | _ => N
  payload g _ b := match cxOf g.2 with
    | some none => barPay g.1.1 b
    | some (some w) => recvPay X W g.1.1 (dOf w.val) (sOf w.val) (w.val / 4)
    | none => iprop(emp)
  amount_pos g _ _ _ := by
    show 0 < (match cxOf g.2 with | some none => 1 | _ => N)
    split
    · exact Nat.one_pos
    · exact N_pos

instance ringRd_payload_storable (g : GSem nD τ sig) (r : ℕ) (b : Bool) : BI.Storable (upEmb : UEmb _ (MM F)) ((ringRd X W).payload g r b) := by
  show BI.Storable upEmb (match cxOf g.2 with
    | some none => barPay g.1.1 b
    | some (some w) => recvPay X W g.1.1 (dOf w.val) (sOf w.val) (w.val / 4)
    | none => iprop(emp))
  split <;> infer_instance

theorem duties_bar (c : Dev nD) : (ringRd X W).duties (barCell c) 0 = Finset.univ := by
  show (if 0 = 0 ∧ ((c : Thread nD τ).2 = .tc) then (match cxOf (.reg barSem) with | some none => Finset.univ | some (some _) => {false} | none => ∅) else ∅) = _
  rw [if_pos ⟨rfl, rfl⟩, cxOf_bar]
theorem duties_later (g : GSem nD τ sig) : ∀ r, 1 ≤ r → (ringRd X W).duties g r = ∅ := fun r hr => if_neg fun h => by omega
theorem amount_bar (c : Dev nD) (b : Bool) : (ringRd X W).amount (barCell c) 0 b = 1 := by
  show (match cxOf (.reg barSem) with | some none => 1 | _ => N) = _
  rw [cxOf_bar]
theorem payload_bar (c : Dev nD) (b : Bool) : (ringRd X W).payload (barCell c) 0 b = barPay c b := by
  show (match cxOf (.reg barSem) with
    | some none => barPay c b
    | some (some w) => recvPay X W c (dOf w.val) (sOf w.val) (w.val / 4)
    | none => iprop(emp)) = _
  rw [cxOf_bar]

theorem cxOf_hop (d : Bool) (s : Fin 2) (j : ℕ) (h : j < 30) : cxOf (.dma (recvSem d s j)) = some (some ⟨wOf d s j, w_lt d s j h⟩) := by
  have := cxOf_recv (wOf d s j) (w_lt d s j h)
  rw [dOf_w, sOf_w, jOf_w] at this
  exact this

theorem duties_recv (c : Dev nD) (d : Bool) (s : Fin 2) (j : ℕ) (h : j < 30) : (ringRd X W).duties (recvCell c d s j) 0 = {false} := by
  show (if 0 = 0 ∧ ((c : Thread nD τ).2 = .tc) then (match cxOf (.dma (recvSem d s j)) with | some none => Finset.univ | some (some _) => {false} | none => ∅) else ∅) = _
  rw [if_pos ⟨rfl, rfl⟩, cxOf_hop d s j h]
theorem amount_recv (c : Dev nD) (d : Bool) (s : Fin 2) (j : ℕ) (h : j < 30) (b : Bool) : (ringRd X W).amount (recvCell c d s j) 0 b = N := by
  show (match cxOf (.dma (recvSem d s j)) with | some none => 1 | _ => N) = _
  rw [cxOf_hop d s j h]
theorem payload_recv (c : Dev nD) (d : Bool) (s : Fin 2) (j : ℕ) (h : j < 30) (b : Bool) : (ringRd X W).payload (recvCell c d s j) 0 b = recvPay X W c d s j := by
  show (match cxOf (.dma (recvSem d s j)) with
    | some none => barPay c b
    | some (some w) => recvPay X W c (dOf w.val) (sOf w.val) (w.val / 4)
    | none => iprop(emp)) = _
  rw [cxOf_hop d s j h]
  show recvPay X W c (dOf (wOf d s j)) (sOf (wOf d s j)) (wOf d s j / 4) = _
  rw [dOf_w, sOf_w, jOf_w]

/-! ## What is owed, and the levels -/

/-- What device `c` owes its neighbours for the hops from `n` on. -/
def owing (c : Dev nD) (n : ℕ) : CellTallies nD τ sig Unit := ∑ w ∈ Finset.Ico n 120, tallyAt (tCell c w) () N

theorem Ico_peel {n m : ℕ} (h : n < m) : Finset.Ico n m = insert n (Finset.Ico (n + 1) m) := by
  ext k; rw [Finset.mem_insert, Finset.mem_Ico, Finset.mem_Ico]; omega
theorem Ico_bot {n m : ℕ} : n ∉ Finset.Ico (n + 1) m := by rw [Finset.mem_Ico]; omega
theorem Ico_top {n m : ℕ} (h : n ≤ m) : Finset.Ico n (m + 1) = insert m (Finset.Ico n m) := by
  ext k; rw [Finset.mem_insert, Finset.mem_Ico, Finset.mem_Ico]; omega
theorem Ico_notop {n m : ℕ} : m ∉ Finset.Ico n m := by rw [Finset.mem_Ico]; omega

theorem owing_step (c : Dev nD) (n : ℕ) (h : n < 120) : owing c n = owing c (n + 1) + tallyAt (tCell c n) () N := by
  unfold owing
  rw [Ico_peel h, Finset.sum_insert Ico_bot, add_comm]
theorem owing_end (c : Dev nD) (n : ℕ) (h : 120 ≤ n) : owing c n = 0 := by
  unfold owing; rw [Finset.Ico_eq_empty (by omega), Finset.sum_empty]

def L (g : GSem nD τ sig) : Finset Unit := if g.1.2 = .tc then {()} else ∅
/-- A hop's cell above every earlier one's, the barrier below, the local copies' and the sends' below that. -/
def lv (g : GSem nD τ sig) (_ : Unit) : ℕ := match cxOf g.2 with | some none => 1 | some (some w) => 2 + w.val | none => 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (w : ℕ) (h : w < 120) : lv (rCell c w) () = 2 + w := by
  show (match cxOf (.dma (recvSem (dOf w) (sOf w) (w / 4))) with | some none => 1 | some (some w) => 2 + w.val | none => 0) = _
  rw [cxOf_recv w h]

theorem owing_pos (c : Dev nD) (n : ℕ) {g : GSem nD τ sig} {u : Unit} (h : 0 < owing c n g u) : ∃ w, n ≤ w ∧ w < 120 ∧ g = tCell c w := by
  unfold owing at h
  rw [Finset.sum_apply, Finsupp.finsetSum_apply] at h
  obtain ⟨w, hw, hp⟩ := Finset.exists_ne_zero_of_sum_ne_zero h.ne'
  refine ⟨w, (Finset.mem_Ico.mp hw).1, (Finset.mem_Ico.mp hw).2, ?_⟩
  rw [tallyAt_apply] at hp
  by_contra hn
  exact hp (if_neg fun h => hn h.1)

theorem mayWait_owing (c : Dev nD) (sm : SemLoc sig) (n k : ℕ) (hk : lv ((c : Thread nD τ), sm) () ≤ k) (hn : k < 2 + n) :
    (levAts L lv : sProp (MM F)) ⊢ MayWait (c : Thread nD τ) sm () (owing c n) :=
  MayOwe.of_cut (L := L) (lev := lv) k (fun p hp => by rw [Finset.mem_singleton.mp hp, L_tc]; exact Finset.mem_singleton_self _)
    (fun g u hg => by obtain ⟨w, -, -, rfl⟩ := owing_pos c n hg; rw [L_tc]; exact Finset.mem_singleton_self _)
    (fun p hp => by rw [Finset.mem_singleton.mp hp]; exact hk)
    (fun g u hg => by
      obtain ⟨w, h1, h2, rfl⟩ := owing_pos c n hg
      show k < lv (rCell (toDev (dOf w) c) w) ()
      rw [lv_recv _ w h2]; omega)

end Cert.KernelIdeal.Ring

end
-- ==== Proof.Steps.lean ====
/-
One hop of one chain: receiving it, and sending the next, with the accounts of what a device holds of the schedule.
-/
module

public import proofs.«01_k».proof.Proof.Sched

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]
variable (X : Dev nD → Vec F S8192x512 .f32) (W : Dev nD → Vec F S512x4096 .f32)

/-! ## The standing facts -/

/-- Every scheduled cell's invariant, that its one round is open, and the levels. -/
def facts (K : Dev nD × Option (Fin 120) → ℕ) : sProp (MM F) :=
  iprop(bigSep Finset.univ (fun ck => cellInv ER (ringRd X W) (K ck) (kcell ck)) ∗ bigSep Finset.univ (fun ck => reached ER (kcell ck) 0) ∗ levAts L lv)

instance facts_persistent (K : Dev nD × Option (Fin 120) → ℕ) : BI.Persistent (facts X W K) := by unfold facts; infer_instance

variable (K : Dev nD × Option (Fin 120) → ℕ)

attribute [local irreducible] owing lv

theorem facts_inv (ck : Dev nD × Option (Fin 120)) : facts X W K ⊢ cellInv ER (ringRd X W) (K ck) (kcell ck) := by
  unfold facts
  iintro ⟨Hi, -, -⟩
  iapply (show bigSep Finset.univ (fun ck => cellInv ER (ringRd X W) (K ck) (kcell ck)) ⊢ cellInv ER (ringRd X W) (K ck) (kcell ck) from bigSep_elim (Finset.mem_univ ck)) $$ Hi
theorem facts_reached (ck : Dev nD × Option (Fin 120)) : facts X W K ⊢ reached ER (kcell ck) 0 := by
  unfold facts
  iintro ⟨-, Hr, -⟩
  iapply (show bigSep Finset.univ (fun ck => (reached ER (kcell ck) 0 : sProp (MM F))) ⊢ reached ER (kcell ck) 0 from bigSep_elim (Finset.mem_univ ck)) $$ Hr

/-- The name of hop `j`'s cell at `c`. -/
abbrev kOf (c : Dev nD) (d : Bool) (s : Fin 2) (j : ℕ) (h : j < 30) : Dev nD × Option (Fin 120) := (c, some ⟨wOf d s j, w_lt d s j h⟩)
theorem kcell_kOf (c : Dev nD) (d : Bool) (s : Fin 2) (j : ℕ) (h : j < 30) : kcell (kOf c d s j h) = recvCell c d s j := rCell_w c d s j

theorem facts_hop_inv (c : Dev nD) (d : Bool) (s : Fin 2) (j : ℕ) (h : j < 30) : facts X W K ⊢ cellInv ER (ringRd X W) (K (kOf c d s j h)) (recvCell c d s j) := by
  have := facts_inv X W K (kOf c d s j h)
  rwa [kcell_kOf] at this
theorem facts_hop_reached (c : Dev nD) (d : Bool) (s : Fin 2) (j : ℕ) (h : j < 30) : facts X W K ⊢ reached ER (recvCell c d s j) 0 := by
  have := facts_reached X W K (kOf c d s j h)
  rwa [kcell_kOf] at this

/-! ## The levels of the waits -/

theorem lv_low (c : Dev nD) (q : DmaSem sig) (h : q.val < 6 ∨ (66 ≤ q.val ∧ q.val < 70) ∨ 130 ≤ q.val) : lv ((c : Thread nD τ), .dma q) () = 0 := by
  unfold lv
  show (match cxOf (.dma q) with | some none => 1 | some (some w) => 2 + w.val | none => 0) = _
  rw [cxOf_ne]
  rintro (_ | w) e
  · cases e
  · have e' : (recvSem (dOf w.val) (sOf w.val) (w.val / 4)).val = q.val := by rw [SemLoc.dma.inj e]
    rw [csem_val] at e'
    have := w.isLt
    rcases Nat.mod_two_eq_zero_or_one w.val with e2 | e2 <;> rw [e2] at e' <;> omega

theorem sendSem_val : ∀ (d : Bool) (s p : Fin 2), (sem22 (sendA d) p s).val = 2 + 64 * d.toNat + 2 * p.val + s.val := by decide
theorem fetchSem_val : ∀ d : Bool, 130 ≤ (fetchSem d).val := by decide
theorem stageSem_val : ∀ d : Bool, 130 ≤ (stageSem d).val := by decide
theorem copySem_val : ∀ d : Bool, 130 ≤ (copySem d).val := by decide

theorem wait_low (c : Dev nD) (q : DmaSem sig) (h : q.val < 6 ∨ (66 ≤ q.val ∧ q.val < 70) ∨ 130 ≤ q.val) (n : ℕ) :
    facts X W K ⊢ MayWait (c : Thread nD τ) (.dma q) () (owing c n) := by
  unfold facts
  iintro ⟨-, -, H⟩
  iapply (mayWait_owing c (.dma q) n 0 (lv_low c q h).le (Nat.lt_of_lt_of_le Nat.two_pos (Nat.le_add_right 2 n))) $$ H
theorem wait_send (c : Dev nD) (d : Bool) (s : Fin 2) (j n : ℕ) : facts X W K ⊢ MayWait (c : Thread nD τ) (.dma (sendSem d s j)) () (owing c n) :=
  wait_low X W K c _ (by
    show (sem22 (sendA d) (par j) s).val < 6 ∨ _
    have := s.isLt
    have := (par j).isLt
    rw [sendSem_val]
    cases d
    · left; show 2 + 64 * 0 + 2 * (par j).val + s.val < 6; omega
    · right; left; show 66 ≤ 2 + 64 * 1 + 2 * (par j).val + s.val ∧ 2 + 64 * 1 + 2 * (par j).val + s.val < 70; omega) n
theorem wait_fetch (c : Dev nD) (d : Bool) (n : ℕ) : facts X W K ⊢ MayWait (c : Thread nD τ) (.dma (fetchSem d)) () (owing c n) :=
  wait_low X W K c _ (Or.inr (Or.inr (fetchSem_val d))) n
theorem wait_stage (c : Dev nD) (d : Bool) (n : ℕ) : facts X W K ⊢ MayWait (c : Thread nD τ) (.dma (stageSem d)) () (owing c n) :=
  wait_low X W K c _ (Or.inr (Or.inr (stageSem_val d))) n
theorem wait_copy (c : Dev nD) (d : Bool) (n : ℕ) : facts X W K ⊢ MayWait (c : Thread nD τ) (.dma (copySem d)) () (owing c n) :=
  wait_low X W K c _ (Or.inr (Or.inr (copySem_val d))) n
theorem wait_recv (c : Dev nD) (d : Bool) (s : Fin 2) (j : ℕ) (h : j < 30) (n : ℕ) (hn : wOf d s j < n) :
    facts X W K ⊢ MayWait (c : Thread nD τ) (.dma (recvSem d s j)) () (owing c n) := by
  have hl : lv (recvCell c d s j) () = 2 + wOf d s j := by rw [← rCell_w]; exact lv_recv c _ (w_lt d s j h)
  unfold facts
  iintro ⟨-, -, H⟩
  iapply (mayWait_owing c (.dma (recvSem d s j)) n (2 + wOf d s j) hl.le (Nat.add_lt_add_left hn 2)) $$ H

/-! ## The accounts -/

/-- The duties of the hops from `v` on. -/
def toks (c : Dev nD) (v : ℕ) : sProp (MM F) := bigSep (Finset.Ico v 120) fun w => dutyTok ER (tCell c w) 0 false
/-- The receive cells from hop `w` on: the device's place in them, and what will land there. -/
def poss (c : Dev nD) (w : ℕ) : sProp (MM F) := bigSep (Finset.Ico w 120) fun w => iprop(atPos ER (rCell c w) 0 ∅ 0 ∗ cred (tallyAt (rCell c w) () N))
/-- The receive cells done with. -/
def closed (c : Dev nD) (w : ℕ) : sProp (MM F) := bigSep (Finset.Ico 0 w) fun w => semVal (rCell c w) 0

/-- Device `c`'s accounts with hops before `w` received and those before `v` sent. -/
def com (c : Dev nD) (w v : ℕ) : sProp (MM F) := iprop(owesE c (owing c v) ∗ toks c v ∗ poss c w ∗ closed c w)

theorem toks_step (c : Dev nD) (v : ℕ) (h : v < 120) : (toks c v : sProp (MM F)) = iprop(dutyTok ER (tCell c v) 0 false ∗ toks c (v + 1)) := by
  unfold toks; rw [Ico_peel h, bigSep_insert Ico_bot]; rfl
theorem poss_step (c : Dev nD) (w : ℕ) (h : w < 120) :
    (poss c w : sProp (MM F)) = iprop((atPos ER (rCell c w) 0 ∅ 0 ∗ cred (tallyAt (rCell c w) () N)) ∗ poss c (w + 1)) := by
  unfold poss; rw [Ico_peel h, bigSep_insert Ico_bot]; rfl
theorem closed_step (c : Dev nD) (w : ℕ) : (closed c (w + 1) : sProp (MM F)) = iprop(semVal (rCell c w) 0 ∗ closed c w) := by
  unfold closed; rw [Ico_top (Nat.zero_le w), bigSep_insert Ico_notop]; rfl

/-! ## One hop -/

/-- Receiving hop `j`. -/
theorem recv_step (c : Dev nD) (d : Bool) (s : Fin 2) (j : ℕ) (h : j < 30) (dst : Memref sig .tc .hbm S512x1024 .f32) (hN : dst.view.dmaCredit = N)
    (w v : ℕ) (hw : w = wOf d s j) (hv : w < v) (k : KProg F) (Q : PUnit → sProp (MM F)) :
    iprop(facts X W K ∗ com c w v) ⊢ iprop(((recvPay X W c d s j ∗ com c (w + 1) v) -∗ run c k Q) -∗ run c (waitK (recvSem d s j) dst k) Q) := by
  subst hw
  unfold com
  rw [poss_step c _ (w_lt d s j h), closed_step, rCell_w]
  iintro ⟨#HF, HO, Ht, ⟨⟨Ha, Hc⟩, Hp⟩, Hz⟩ Hk
  ihave Hi := (facts_hop_inv X W K c d s j h) $$ HF
  ihave Hm := (wait_recv X W K c d s j h v hv) $$ HF
  iapply (wp_recvK (ringRd X W) d s c j dst hN (K (kOf c d s j h)) (fun h => h) (duties_recv X W c d s j h) (duties_later X W _) (amount_recv X W c d s j h false)
    (owing c v) k Q) $$ [Hi Hc Ha HO Hm]
  · isplitl [Hi]; · iexact Hi
    isplitl [Hc]; · iexact Hc
    isplitl [Ha]; · iexact Ha
    isplitl [HO] <;> iassumption
  rw [payload_recv X W c d s j h]
  iintro ⟨HR, Hv, HO⟩
  iapply Hk
  isplitl [HR]; · iexact HR
  isplitl [HO]; · iexact HO
  isplitl [Ht]; · iexact Ht
  isplitl [Hp]; · iexact Hp
  isplitl [Hv] <;> iassumption

theorem send_pay (c : Dev nD) (d : Bool) (s : Fin 2) (j : ℕ) (h : j < 30) (V : Vec F S512x1024 .f32) (hV : V = val X W j c d s) :
    iprop(hold (toDev d c) (sendBlk d s c (j + 1)) V ∗ carried c d s j) ⊢ (ringRd X W).payload (recvCell (toDev d c) d s j) 0 false := by
  rw [payload_recv X W _ d s j h]
  unfold recvPay
  rw [sendBlk_eq, up_toDev d c (j + 1), up_toDev d c 0, up_zero, hV]

/-- Sending hop `j`. -/
theorem send_step (c : Dev nD) (d : Bool) (s : Fin 2) (j : ℕ) (h : j < 30) (src : Memref sig .tc .hbm S512x1024 .f32)
    (V : Vec F S512x1024 .f32) (hV : V = val X W j c d s) (w v : ℕ) (hv : v = wOf d s j) (k : KProg F) (Q : PUnit → sProp (MM F)) :
    iprop(facts X W K ∗ com c w v ∗ hold c src V ∗ have_ (toDev d c) (oBlk d s (up d c (j + 1))) ∗ carried c d s j ∗ semVal ((c : Thread nD τ), .dma (sendSem d s j)) 0)
      ⊢ iprop(((Flight EC (c : Thread nD τ) (.dma (sendSem d s j)) () N (hold c src V) ∗ com c w (v + 1)) -∗ run c k Q) -∗ run c (sendK d s c j src (sendBlk d s c (j + 1)) k) Q) := by
  subst hv
  unfold com
  rw [toks_step c _ (w_lt d s j h), owing_step c _ (w_lt d s j h), tCell_w, ← sendBlk_eq d s c (j + 1)]
  iintro ⟨#HF, ⟨HO, ⟨Ht, Hts⟩, Hp, Hz⟩, Hs, Hd, HR, Hv⟩ Hk
  ihave Hi := (facts_hop_inv X W K (toDev d c) d s j h) $$ HF
  ihave Hr := (facts_hop_reached X W K (toDev d c) d s j h) $$ HF
  iapply (wp_sendK (ringRd X W) d s c j src (sendBlk d s c (j + 1)) (credit_sendBlk d s c (j + 1)) V (carried c d s j) (K (kOf (toDev d c) d s j h))
    (by rw [duties_recv X W _ d s j h]; exact Finset.mem_singleton_self _) (amount_recv X W _ d s j h false) (send_pay X W c d s j h V hV)
    (owing c (wOf d s j + 1)) k Q) $$ [Hi Hr Ht Hs Hd HR Hv HO]
  · isplitl [Hi]; · iexact Hi
    isplitl [Hr]; · iexact Hr
    isplitl [Ht]; · iexact Ht
    isplitl [Hs]; · iexact Hs
    isplitl [Hd]; · iexact Hd
    isplitl [HR]; · iexact HR
    isplitl [Hv] <;> iassumption
  iintro ⟨Hf, HO⟩
  iapply Hk
  isplitl [Hf]; · iexact Hf
  isplitl [HO]; · iexact HO
  isplitl [Hts]; · iexact Hts
  isplitl [Hp] <;> iassumption

/-! ## The places that travel -/

theorem carried_shift (c : Dev nD) (d : Bool) (s : Fin 2) (j : ℕ) :
    (carried (up d c 1) d s j : sProp (MM F)) = bigSep (Finset.Ico (j - 14 + 1) (min j 15 + 1)) fun u => have_ (up d c u) (oBlk d s (up d c (j + 2))) := by
  unfold carried
  have e : Finset.Ico (j - 14 + 1) (min j 15 + 1) = (Finset.Ico (j - 14) (min j 15)).map ⟨fun u => u + 1, fun a b h => Nat.succ.inj h⟩ := by
    ext k
    rw [Finset.mem_map, Finset.mem_Ico]
    constructor
    · intro h; exact ⟨k - 1, Finset.mem_Ico.mpr (by omega), by show k - 1 + 1 = k; omega⟩
    · rintro ⟨u, hu, rfl⟩; have := Finset.mem_Ico.mp hu; show _ ≤ u + 1 ∧ u + 1 < _; omega
  rw [e, bigSep_map]
  refine bigSep_congr fun u _ => ?_
  show have_ (up d (up d c 1) u) _ = have_ (up d c (u + 1)) _
  rw [up_up, up_up, Nat.add_comm 1 u, show 1 + (j + 1) = j + 2 by omega]

/-- Before the sum is finished: the place just read joins. -/
theorem carried_rs (c : Dev nD) (d : Bool) (s : Fin 2) (j : ℕ) (h : j < 14) :
    iprop(carried (up d c 1) d s j ∗ have_ c (oBlk d s (up d c (j + 2)))) ⊢ (carried c d s (j + 1) : sProp (MM F)) := by
  rw [carried_shift]
  unfold carried
  rw [show j - 14 + 1 = 0 + 1 by omega, show min j 15 + 1 = j + 1 by omega, show j + 1 - 14 = 0 by omega, show min (j + 1) 15 = j + 1 by omega,
    Ico_peel (show 0 < j + 1 by omega), bigSep_insert Ico_bot, up_zero]
  show _ ⊢ iprop(_ ∗ _)
  iintro ⟨H1, H2⟩
  isplitl [H2] <;> iassumption
theorem carried_mid (c : Dev nD) (d : Bool) (s : Fin 2) : (carried (up d c 1) d s 14 : sProp (MM F)) ⊢ carried c d s 15 := by
  rw [carried_shift]; exact .rfl
/-- After: the neighbour's place comes out, for this hop to land in. -/
theorem carried_ag (c : Dev nD) (d : Bool) (s : Fin 2) (j : ℕ) (h : 15 ≤ j) (h' : j < 29) :
    (carried (up d c 1) d s j : sProp (MM F)) ⊢ iprop(have_ (toDev d c) (oBlk d s (up d c (j + 2))) ∗ carried c d s (j + 1)) := by
  rw [carried_shift]
  unfold carried
  rw [show j - 14 + 1 = j + 1 - 14 by omega, show min j 15 + 1 = 15 + 1 by omega, show min (j + 1) 15 = 15 by omega,
    Ico_top (show j + 1 - 14 ≤ 15 by omega), bigSep_insert Ico_notop, toDev_eq]
  exact .rfl

end Cert.KernelIdeal.Ring

end
-- ==== Proof.Chains.lean ====
/-
A chain through the loop: what a device holds before each iteration's hop, and that an iteration carries it to the next.
-/
module

public import proofs.«01_k».proof.Proof.Steps

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]
variable (X : Dev nD → Vec F S8192x512 .f32) (W : Dev nD → Vec F S512x4096 .f32)
variable (K : Dev nD × Option (Fin 120) → ℕ)

/-- The semaphores of a direction's local copies, at rest. -/
def locs (c : Dev nD) (d : Bool) : sProp (MM F) := iprop(semVal ((c : Thread nD τ), .dma (fetchSem d)) 0 ∗ semVal ((c : Thread nD τ), .dma (stageSem d)) 0)

theorem par_two (j : ℕ) : par (j + 2) = par j := Fin.ext (Nat.add_mod_right j 2)
theorem sendSem_two (d : Bool) (s : Fin 2) (j : ℕ) : sendSem d s (j + 1 + 1) = sendSem d s j := congrArg (fun p => sem22 (sendA d) p s) (par_two j)
theorem wOf_succ (d : Bool) (s : Fin 2) (j : ℕ) : wOf d s j + 4 = wOf d s (j + 1) := by
  show 4 * j + 2 * s.val + d.toNat + 4 = 4 * (j + 1) + 2 * s.val + d.toNat
  omega

/-! ## The reduce-scatter -/

/-- Hop `j`'s source while it is in flight. -/
abbrev sumHold (c : Dev nD) (d : Bool) (s : Fin 2) (j : ℕ) : sProp (MM F) := hold c (slotV (sumM d) (par j) s) (val X W j c d s)
/-- The hop before: still in flight, but at the start the other slot is free. -/
def prev (c : Dev nD) (d : Bool) (s : Fin 2) : ℕ → sProp (MM F)
  | 0 => iprop(semVal ((c : Thread nD τ), .dma (sendSem d s 1)) 0 ∗ have_ c (slotV (sumM d) 1 s))
  | j + 1 => Flight EC (c : Thread nD τ) (.dma (sendSem d s j)) () N (sumHold X W c d s j)

/-- A chain before iteration `i`'s hop, `i` at most 14. -/
def rsSt (c : Dev nD) (d : Bool) (s : Fin 2) (i : ℕ) : sProp (MM F) :=
  iprop(Flight EC (c : Thread nD τ) (.dma (sendSem d s i)) () N (sumHold X W c d s i) ∗ prev X W c d s i ∗ dests c d s (i + 1)
    ∗ have_ c (slotV (accM d) (par i) s) ∗ have_ c (slotV (accM d) (par (i + 1)) s) ∗ have_ c (tmpV d s))
/-- A chain after iteration 14's hop: the finished block in VMEM, and the place of the device's own chunk. -/
def rsEnd (c : Dev nD) (d : Bool) (s : Fin 2) : sProp (MM F) :=
  iprop(Flight EC (c : Thread nD τ) (.dma (sendSem d s 15)) () N (sumHold X W c d s 15) ∗ Flight EC (c : Thread nD τ) (.dma (sendSem d s 14)) () N (sumHold X W c d s 14)
    ∗ have_ c (slotV (accM d) 0 s) ∗ hold c (slotV (accM d) 1 s) (val X W 15 c d s) ∗ have_ c (tmpV d s) ∗ have_ c (oBlk d s c))

theorem dests_step (c : Dev nD) (d : Bool) (s : Fin 2) (m : ℕ) (h : m < 16) :
    (dests c d s m : sProp (MM F)) = iprop(have_ (toDev d c) (oBlk d s (up d c (m + 1))) ∗ dests c d s (m + 1)) := by
  unfold dests; rw [Ico_peel h, bigSep_insert Ico_bot]; rfl

/-- Staging the sum and sending it, once the slot it goes to is free. -/
theorem stage_step (c : Dev nD) (d : Bool) (s : Fin 2) (i : ℕ) (hi : i < 15) (w v : ℕ) (hv : v = wOf d s (i + 1)) (k : KProg F) (Q : PUnit → sProp (MM F)) :
    iprop(facts X W K ∗ com c w v ∗ hold c (slotV (accM d) (par (i + 1)) s) (val X W (i + 1) c d s) ∗ have_ c (slotV (sumM d) (par (i + 1)) s)
        ∗ semVal ((c : Thread nD τ), .dma (stageSem d)) 0 ∗ semVal ((c : Thread nD τ), .dma (sendSem d s (i + 1))) 0
        ∗ have_ (toDev d c) (oBlk d s (up d c (i + 2))) ∗ carried c d s (i + 1))
      ⊢ iprop(((Flight EC (c : Thread nD τ) (.dma (sendSem d s (i + 1))) () N (sumHold X W c d s (i + 1)) ∗ com c w (v + 1)
        ∗ hold c (slotV (accM d) (par (i + 1)) s) (val X W (i + 1) c d s) ∗ semVal ((c : Thread nD τ), .dma (stageSem d)) 0) -∗ run c k Q)
        -∗ run c (stageSendK d s c i k) Q) := by
  unfold stageSendK
  rw [show (com c w v : sProp (MM F)) = iprop(owesE c (owing c v) ∗ toks c v ∗ poss c w ∗ closed c w) from rfl]
  iintro ⟨#HF, ⟨HO, Ht, Hp, Hz⟩, Ha, Hs, Hg, Hv, Hd, HR⟩ Hk
  ihave Hm := (wait_stage X W K c d v) $$ HF
  iapply (wp_copyK c (stageSem d) (slotV (accM d) (par (i + 1)) s) (slotV (sumM d) (par (i + 1)) s) _ (by decide) _ (owing c v) _ Q) $$ [Ha Hs Hg HO Hm]
  · isplitl [Ha]; · iexact Ha
    isplitl [Hs]; · iexact Hs
    isplitl [Hg]; · iexact Hg
    isplitl [HO] <;> iassumption
  iintro ⟨Ha, Hs, Hg, HO⟩
  iapply (send_step X W K c d s (i + 1) (by omega) (slotV (sumM d) (par (i + 1)) s) _ rfl w v hv k Q) $$ [HO Ht Hp Hz Hs Hv Hd HR]
  · isplitr; · iexact HF
    isplitl [HO Ht Hp Hz]
    · unfold com
      isplitl [HO]; · iexact HO
      isplitl [Ht]; · iexact Ht
      isplitl [Hp] <;> iassumption
    isplitl [Hs]; · iexact Hs
    isplitl [Hd]; · iexact Hd
    isplitl [HR] <;> iassumption
  iintro ⟨Hf, Hcom⟩
  iapply Hk
  isplitl [Hf]; · iexact Hf
  isplitl [Hcom]; · iexact Hcom
  isplitl [Ha] <;> iassumption

/-- The wait for the send before, where there is one: its slot is free again. -/
theorem prev_step (c : Dev nD) (d : Bool) (s : Fin 2) (i : ℕ) (w v : ℕ) (k : KProg F) (Q : PUnit → sProp (MM F)) :
    iprop(facts X W K ∗ com c w v ∗ prev X W c d s i)
      ⊢ iprop(((com c w v ∗ have_ c (slotV (sumM d) (par (i + 1)) s) ∗ semVal ((c : Thread nD τ), .dma (sendSem d s (i + 1))) 0) -∗ run c (stageSendK d s c i k) Q)
        -∗ run c (match i with | 0 => stageSendK d s c 0 k | i' + 1 => waitK (sendSem d s i') (sentBlk d s c i') <| stageSendK d s c (i' + 1) k) Q) := by
  cases i with
  | zero =>
    rw [show prev X W c d s 0 = iprop(semVal ((c : Thread nD τ), .dma (sendSem d s 1)) 0 ∗ have_ c (slotV (sumM d) 1 s)) from rfl]
    iintro ⟨-, Hcom, Hv, Hs⟩ Hk
    iapply Hk
    isplitl [Hcom]; · iexact Hcom
    isplitl [Hs] <;> iassumption
  | succ j =>
    rw [show prev X W c d s (j + 1) = Flight EC (c : Thread nD τ) (.dma (sendSem d s j)) () N (sumHold X W c d s j) from rfl,
      show (com c w v : sProp (MM F)) = iprop(owesE c (owing c v) ∗ toks c v ∗ poss c w ∗ closed c w) from rfl,
      show par (j + 1 + 1) = par j from par_two j]
    iintro ⟨#HF, ⟨HO, Ht, Hp, Hz⟩, Hf⟩ Hk
    ihave Hm := (wait_send X W K c d s j v) $$ HF
    iapply (wp_waitK c (sendSem d s j) (sentBlk d s c j) N (credit_sent d s c j) (sumHold X W c d s j) (owing c v) _ Q) $$ [Hf HO Hm]
    · isplitl [Hf]; · iexact Hf
      isplitl [HO] <;> iassumption
    iintro ⟨Hs, Hv, HO⟩
    iapply Hk
    isplitl [HO Ht Hp Hz]
    · isplitl [HO]; · iexact HO
      isplitl [Ht]; · iexact Ht
      isplitl [Hp] <;> iassumption
    isplitl [Hs]
    · iapply (have_of_hold c _ _) $$ Hs
    · rw [sendSem_two]; iexact Hv

/-- One reduce-scatter hop: received, added to, sent on. -/
theorem rs_core (c : Dev nD) (d : Bool) (s : Fin 2) (i : ℕ) (hi : i < 15) (R : sProp (MM F))
    (hR : iprop(carried (up d c 1) d s i ∗ have_ c (oBlk d s (up d c (i + 2)))) ⊢ iprop(carried c d s (i + 1) ∗ R))
    (w : ℕ) (hw : w = wOf d s i) (k : KProg F) (Q : PUnit → sProp (MM F)) :
    iprop(facts X W K ∗ com c w (w + 4) ∗ locs c d ∗ prev X W c d s i ∗ dests c d s (i + 1) ∗ have_ c (slotV (accM d) (par (i + 1)) s) ∗ have_ c (tmpV d s))
      ⊢ iprop(((com c (w + 1) (w + 5) ∗ locs c d ∗ Flight EC (c : Thread nD τ) (.dma (sendSem d s (i + 1))) () N (sumHold X W c d s (i + 1)) ∗ dests c d s (i + 2)
        ∗ hold c (slotV (accM d) (par (i + 1)) s) (val X W (i + 1) c d s) ∗ have_ c (tmpV d s) ∗ R) -∗ run c k Q)
        -∗ run c (rsCellK d s c i (part (X c) (W c) d (up d c (i + 2))) k) Q) := by
  unfold rsCellK
  rw [dests_step c d s (i + 1) (by omega)]
  iintro ⟨#HF, Hcom, Hl, Hpr, ⟨Hd, Hds⟩, Ha, Ht⟩ Hk
  unfold locs
  icases Hl with ⟨Hlf, Hls⟩
  iapply (recv_step X W K c d s i (by omega) (sendBlk d s c (i + 1)) (credit_sendBlk d s c (i + 1)) w (w + 4) hw (by omega) _ Q) $$ [Hcom]
  · isplitr; · iexact HF
    iexact Hcom
  rw [show recvPay X W c d s i = iprop(hold c (oBlk d s (up d c (i + 2))) (val X W i (up d c 1) d s) ∗ carried (up d c 1) d s i) from rfl,
    show (com c (w + 1) (w + 4) : sProp (MM F)) = iprop(owesE c (owing c (w + 4)) ∗ toks c (w + 4) ∗ poss c (w + 1) ∗ closed c (w + 1)) from rfl]
  iintro ⟨⟨Hb, HR⟩, HO, Htk, Hp, Hz⟩
  ihave Hm := (wait_fetch X W K c d (w + 4)) $$ HF
  iapply (wp_addK d s c i hi (part (X c) (W c) d (up d c (i + 2))) (val X W i (up d c 1) d s) (owing c (w + 4)) _ Q) $$ [Hb Ht Ha Hlf HO Hm]
  · isplitl [Hb]; · iexact Hb
    isplitl [Ht]; · iexact Ht
    isplitl [Ha]; · iexact Ha
    isplitl [Hlf]; · iexact Hlf
    isplitl [HO] <;> iassumption
  rw [← val_rs X W i hi c d s]
  iintro ⟨Hb, Ht, Ha, Hlf, HO⟩
  ihave Hb := (have_of_hold c _ _) $$ Hb
  ihave HR := hR $$ [HR Hb]
  · isplitl [HR] <;> iassumption
  icases HR with ⟨HC, HR⟩
  iapply (prev_step X W K c d s i (w + 1) (w + 4) k Q) $$ [HO Htk Hp Hz Hpr]
  · isplitr; · iexact HF
    isplitr [Hpr]
    · unfold com
      isplitl [HO]; · iexact HO
      isplitl [Htk]; · iexact Htk
      isplitl [Hp] <;> iassumption
    · iexact Hpr
  iintro ⟨Hcom, Hs, Hv⟩
  iapply (stage_step X W K c d s i hi (w + 1) (w + 4) (by rw [hw, wOf_succ]) k Q) $$ [Hcom Ha Hs Hls Hv Hd HC]
  · isplitr; · iexact HF
    isplitl [Hcom]; · iexact Hcom
    isplitl [Ha]; · iexact Ha
    isplitl [Hs]; · iexact Hs
    isplitl [Hls]; · iexact Hls
    isplitl [Hv]; · iexact Hv
    isplitl [Hd] <;> iassumption
  iintro ⟨Hf, Hcom, Ha, Hls⟩
  iapply Hk
  isplitl [Hcom]; · iexact Hcom
  isplitl [Hlf Hls]
  · isplitl [Hlf] <;> iassumption
  isplitl [Hf]; · iexact Hf
  isplitl [Hds]; · iexact Hds
  isplitl [Ha]; · iexact Ha
  isplitl [Ht] <;> iassumption

theorem carried_rs_emp (c : Dev nD) (d : Bool) (s : Fin 2) (i : ℕ) (hi : i < 14) :
    iprop(carried (up d c 1) d s i ∗ have_ c (oBlk d s (up d c (i + 2)))) ⊢ (iprop(carried c d s (i + 1) ∗ emp) : sProp (MM F)) := by
  iintro H
  isplitl [H]
  · iapply (carried_rs c d s i hi) $$ H
  · iempintro

theorem rs_cell (c : Dev nD) (d : Bool) (s : Fin 2) (i : ℕ) (hi : i < 14) (w : ℕ) (hw : w = wOf d s i) (k : KProg F) (Q : PUnit → sProp (MM F)) :
    iprop(facts X W K ∗ com c w (w + 4) ∗ locs c d ∗ rsSt X W c d s i)
      ⊢ iprop(((com c (w + 1) (w + 5) ∗ locs c d ∗ rsSt X W c d s (i + 1)) -∗ run c k Q)
        -∗ run c (rsCellK d s c i (part (X c) (W c) d (up d c (i + 2))) k) Q) := by
  unfold rsSt
  rw [show par (i + 1 + 1) = par i from par_two i,
    show prev X W c d s (i + 1) = Flight EC (c : Thread nD τ) (.dma (sendSem d s i)) () N (sumHold X W c d s i) from rfl]
  iintro ⟨#HF, Hcom, Hl, Hf, Hpr, Hds, Ha0, Ha1, Ht⟩ Hk
  iapply (rs_core X W K c d s i (by omega) iprop(emp) (carried_rs_emp c d s i hi) w hw k Q) $$ [Hcom Hl Hpr Hds Ha1 Ht]
  · isplitr; · iexact HF
    isplitl [Hcom]; · iexact Hcom
    isplitl [Hl]; · iexact Hl
    isplitl [Hpr]; · iexact Hpr
    isplitl [Hds]; · iexact Hds
    isplitl [Ha1] <;> iassumption
  iintro ⟨Hcom, Hl, Hf', Hds, Ha1, Ht, -⟩
  iapply Hk
  isplitl [Hcom]; · iexact Hcom
  isplitl [Hl]; · iexact Hl
  isplitl [Hf']; · iexact Hf'
  isplitl [Hf]; · iexact Hf
  isplitl [Hds]; · iexact Hds
  isplitl [Ha1]
  · iapply (have_of_hold c _ _) $$ Ha1
  isplitl [Ha0] <;> iassumption

theorem rs_cell_end (c : Dev nD) (d : Bool) (s : Fin 2) (w : ℕ) (hw : w = wOf d s 14) (k : KProg F) (Q : PUnit → sProp (MM F)) :
    iprop(facts X W K ∗ com c w (w + 4) ∗ locs c d ∗ rsSt X W c d s 14)
      ⊢ iprop(((com c (w + 1) (w + 5) ∗ locs c d ∗ rsEnd X W c d s) -∗ run c k Q)
        -∗ run c (rsCellK d s c 14 (part (X c) (W c) d (up d c (14 + 2))) k) Q) := by
  unfold rsSt rsEnd
  iintro ⟨#HF, Hcom, Hl, Hf, Hpr, Hds, Ha0, Ha1, Ht⟩ Hk
  iapply (rs_core X W K c d s 14 (by omega) (have_ c (oBlk d s c)) (by
      rw [up_sixteen]
      iintro ⟨H, H'⟩
      isplitl [H]
      · iapply (carried_mid c d s) $$ H
      · iexact H') w hw k Q) $$ [Hcom Hl Hpr Hds Ha1 Ht]
  · isplitr; · iexact HF
    isplitl [Hcom]; · iexact Hcom
    isplitl [Hl]; · iexact Hl
    isplitl [Hpr]; · iexact Hpr
    isplitl [Hds]; · iexact Hds
    isplitl [Ha1] <;> iassumption
  iintro ⟨Hcom, Hl, Hf', -, Ha1, Ht, Ho⟩
  iapply Hk
  isplitl [Hcom]; · iexact Hcom
  isplitl [Hl]; · iexact Hl
  isplitl [Hf']; · iexact Hf'
  isplitl [Hf]; · iexact Hf
  isplitl [Ha0]; · iexact Ha0
  isplitl [Ha1]; · iexact Ha1
  isplitl [Ht] <;> iassumption

/-! ## The all-gather -/

/-- The block hop `j` is sent from. -/
abbrev srcBlk (d : Bool) (s : Fin 2) (c : Dev nD) (j : ℕ) : Memref sig .tc .hbm S512x1024 .f32 :=
  if j ≤ 15 then slotV (sumM d) (par j) s else oBlk d s (up d c (j + 1))
abbrev srcHold (c : Dev nD) (d : Bool) (s : Fin 2) (j : ℕ) : sProp (MM F) := hold c (srcBlk d s c j) (val X W j c d s)

/-- The finished blocks of the hops before `m`, at rest. -/
def got (c : Dev nD) (d : Bool) (s : Fin 2) (m : ℕ) : sProp (MM F) :=
  bigSep (Finset.Ico 16 m) fun j => hold c (oBlk d s (up d c (j + 1))) (val X W j c d s)

/-- A chain before iteration `i + 1`'s hop in the all-gather. -/
def agSt (c : Dev nD) (d : Bool) (s : Fin 2) (i : ℕ) : sProp (MM F) :=
  iprop(Flight EC (c : Thread nD τ) (.dma (sendSem d s (i + 1))) () N (srcHold X W c d s (i + 1)) ∗ Flight EC (c : Thread nD τ) (.dma (sendSem d s i)) () N (srcHold X W c d s i)
    ∗ got X W c d s i)

theorem srcBlk_late (d : Bool) (s : Fin 2) (c : Dev nD) (j : ℕ) (h : 16 ≤ j) : srcBlk d s c j = oBlk d s (up d c (j + 1)) := if_neg (by omega)
theorem srcBlk_early (d : Bool) (s : Fin 2) (c : Dev nD) (j : ℕ) (h : j ≤ 15) : srcBlk d s c j = slotV (sumM d) (par j) s := if_pos h

theorem got_step (c : Dev nD) (d : Bool) (s : Fin 2) (j : ℕ) : iprop(srcHold X W c d s j ∗ got X W c d s j) ⊢ got X W c d s (j + 1) := by
  unfold got
  by_cases h : 16 ≤ j
  · rw [Ico_top h, bigSep_insert Ico_notop]
    unfold srcHold
    rw [srcBlk_late d s c j h]
    exact .rfl
  · rw [Finset.Ico_eq_empty (show ¬ 16 < j + 1 by omega), bigSep_empty]
    iintro -
    iempintro

theorem ag_cell (c : Dev nD) (d : Bool) (s : Fin 2) (i : ℕ) (hi : 14 ≤ i) (hi' : i < 28) (w : ℕ) (hw : w = wOf d s (i + 1)) (k : KProg F) (Q : PUnit → sProp (MM F)) :
    iprop(facts X W K ∗ com c w (w + 4) ∗ agSt X W c d s i)
      ⊢ iprop(((com c (w + 1) (w + 5) ∗ agSt X W c d s (i + 1)) -∗ run c k Q) -∗ run c (agCellK d s c (i + 1) k) Q) := by
  unfold agCellK agSt
  rw [Nat.add_sub_cancel]
  iintro ⟨#HF, Hcom, Hf, Hf', Hg⟩ Hk
  iapply (recv_step X W K c d s (i + 1) (by omega) (sendBlk d s c (i + 1 + 1)) (credit_sendBlk d s c _) w (w + 4) hw (by omega) _ Q) $$ [Hcom]
  · isplitr; · iexact HF
    iexact Hcom
  rw [show recvPay X W c d s (i + 1) = iprop(hold c (oBlk d s (up d c (i + 1 + 2))) (val X W (i + 1) (up d c 1) d s) ∗ carried (up d c 1) d s (i + 1)) from rfl,
    show (com c (w + 1) (w + 4) : sProp (MM F)) = iprop(owesE c (owing c (w + 4)) ∗ toks c (w + 4) ∗ poss c (w + 1) ∗ closed c (w + 1)) from rfl,
    ← val_ag X W (i + 1) (by omega) c d s]
  iintro ⟨⟨Hb, HR⟩, HO, Htk, Hp, Hz⟩
  ihave HR := (carried_ag c d s (i + 1) (by omega) (by omega)) $$ HR
  icases HR with ⟨Hd, HC⟩
  ihave Hm := (wait_send X W K c d s i (w + 4)) $$ HF
  iapply (wp_waitK c (sendSem d s i) (sentBlk d s c i) N (credit_sent d s c i) (srcHold X W c d s i) (owing c (w + 4)) _ Q) $$ [Hf' HO Hm]
  · isplitl [Hf']; · iexact Hf'
    isplitl [HO] <;> iassumption
  iintro ⟨Hs, Hv, HO⟩
  ihave Hg := (got_step X W c d s i) $$ [Hs Hg]
  · isplitl [Hs] <;> iassumption
  iapply (send_step X W K c d s (i + 1 + 1) (by omega) (sendBlk d s c (i + 1 + 2)) (val X W (i + 1 + 1) c d s) rfl (w + 1) (w + 4) (by rw [hw, wOf_succ]) k Q) $$ [HO Htk Hp Hz Hb Hd HC Hv]
  · isplitr; · iexact HF
    isplitl [HO Htk Hp Hz]
    · unfold com
      isplitl [HO]; · iexact HO
      isplitl [Htk]; · iexact Htk
      isplitl [Hp] <;> iassumption
    isplitl [Hb]
    · rw [sendBlk_eq]; iexact Hb
    isplitl [Hd]; · iexact Hd
    isplitl [HC]; · iexact HC
    rw [sendSem_two]
    iexact Hv
  iintro ⟨Hfn, Hcom⟩
  iapply Hk
  isplitl [Hcom]; · iexact Hcom
  isplitl [Hfn]
  · unfold srcHold
    rw [srcBlk_late d s c (i + 1 + 1) (by omega), sendBlk_eq]
    iexact Hfn
  isplitl [Hf] <;> iassumption

theorem rsEnd_agSt (c : Dev nD) (d : Bool) (s : Fin 2) :
    rsEnd X W c d s ⊢ iprop(agSt X W c d s 14 ∗ have_ c (slotV (accM d) 0 s) ∗ hold c (slotV (accM d) 1 s) (val X W 15 c d s) ∗ have_ c (tmpV d s) ∗ have_ c (oBlk d s c)) := by
  unfold rsEnd agSt srcHold
  rw [srcBlk_early d s c 15 (by omega), srcBlk_early d s c 14 (by omega), show got X W c d s 14 = iprop(emp) from by
    unfold got; rw [Finset.Ico_eq_empty (by omega), bigSep_empty]; rfl]
  iintro ⟨H1, H2, H⟩
  isplitr [H]
  · isplitl [H1]; · iexact H1
    isplitl [H2]; · iexact H2
    iempintro
  · iexact H

end Cert.KernelIdeal.Ring

end
-- ==== Proof.Loop.lean ====
/-
The two loops: the four chains side by side through the reduce-scatter and the all-gather, and the drain after them.
-/
module

public import proofs.«01_k».proof.Proof.Chains

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]
variable (X : Dev nD → Vec F S8192x512 .f32) (W : Dev nD → Vec F S512x4096 .f32)
variable (K : Dev nD × Option (Fin 120) → ℕ)

/-! ## The four chains together -/

/-- The four chains in program order. -/
abbrev all4 (Φ : Bool → Fin 2 → sProp (MM F)) : sProp (MM F) := iprop(Φ false 0 ∗ Φ true 0 ∗ Φ false 1 ∗ Φ true 1)

/-- The activations and weights, in VMEM throughout. -/
abbrev ins (c : Dev nD) : sProp (MM F) := iprop(hold c xM (X c) ∗ hold c wM (W c))

/-! ## The first hops -/

/-- A chain before its first hop. -/
def chain0 (c : Dev nD) (d : Bool) (s : Fin 2) : sProp (MM F) :=
  iprop(hold c (slotV (sumM d) 0 s) (val X W 0 c d s) ∗ have_ c (slotV (sumM d) 1 s) ∗ semVal ((c : Thread nD τ), .dma (sendSem d s 0)) 0
    ∗ semVal ((c : Thread nD τ), .dma (sendSem d s 1)) 0 ∗ dests c d s 0
    ∗ have_ c (slotV (accM d) 0 s) ∗ have_ c (slotV (accM d) 1 s) ∗ have_ c (tmpV d s))

theorem carried_zero (c : Dev nD) (d : Bool) (s : Fin 2) : (iprop(emp) : sProp (MM F)) ⊢ carried c d s 0 := by
  unfold carried
  rw [Finset.Ico_eq_empty (by omega), bigSep_empty]
  exact .rfl

theorem hop0 (c : Dev nD) (d : Bool) (s : Fin 2) (v : ℕ) (hv : v = wOf d s 0) (k : KProg F) (Q : PUnit → sProp (MM F)) :
    iprop(facts X W K ∗ com c 0 v ∗ chain0 X W c d s)
      ⊢ iprop(((com c 0 (v + 1) ∗ rsSt X W c d s 0) -∗ run c k Q) -∗ run c (sendK d s c 0 (slotV (sumM d) 0 s) (sendBlk d s c 1) k) Q) := by
  unfold chain0 rsSt
  rw [dests_step c d s 0 (by omega),
    show prev X W c d s 0 = iprop(semVal ((c : Thread nD τ), .dma (sendSem d s 1)) 0 ∗ have_ c (slotV (sumM d) 1 s)) from rfl]
  iintro ⟨#HF, Hcom, Hs, Hs1, Hv, Hv1, ⟨Hd, Hds⟩, Ha0, Ha1, Ht⟩ Hk
  iapply (send_step X W K c d s 0 (by omega) (slotV (sumM d) 0 s) (val X W 0 c d s) rfl 0 v hv k Q) $$ [Hcom Hs Hd Hv]
  · isplitr; · iexact HF
    isplitl [Hcom]; · iexact Hcom
    isplitl [Hs]; · iexact Hs
    isplitl [Hd]; · iexact Hd
    isplitr; · iapply (carried_zero c d s); iempintro
    iexact Hv
  iintro ⟨Hf, Hcom⟩
  iapply Hk
  isplitl [Hcom]; · iexact Hcom
  isplitl [Hf]; · iexact Hf
  isplitl [Hv1 Hs1]
  · isplitl [Hv1] <;> iassumption
  isplitl [Hds]; · iexact Hds
  isplitl [Ha0]; · iexact Ha0
  isplitl [Ha1] <;> iassumption

/-! ## The iterations -/

theorem itersK_last (f : ℕ → KProg F → KProg F) (n : ℕ) : ∀ (i : ℕ) (k : KProg F), itersK f (n + 1) i k = itersK f n i (f (i + n) k) := by
  induction n with
  | zero => intro i k; rfl
  | succ n ih =>
    intro i k
    show f i (itersK f (n + 1) (i + 1) k) = f i (itersK f n (i + 1) (f (i + (n + 1)) k))
    rw [ih, show i + 1 + n = i + (n + 1) by omega]

/-- Iterations one after another, from a step of each. -/
theorem iters (c : Dev nD) (f : ℕ → KProg F → KProg F) (S : ℕ → sProp (MM F)) (n : ℕ) : ∀ (i : ℕ) (k : KProg F) (Q : PUnit → sProp (MM F)),
    (∀ j, i ≤ j → j < i + n → ∀ (k : KProg F), iprop(facts X W K ∗ S j) ⊢ iprop((S (j + 1) -∗ run c k Q) -∗ run c (f j k) Q)) →
    iprop(facts X W K ∗ S i) ⊢ iprop((S (i + n) -∗ run c k Q) -∗ run c (itersK f n i k) Q) := by
  induction n with
  | zero =>
    intro i k Q _
    iintro ⟨-, H⟩ Hk
    iapply Hk
    iexact H
  | succ n ih =>
    intro i k Q h
    show _ ⊢ iprop((S (i + (n + 1)) -∗ run c k Q) -∗ run c (f i (itersK f n (i + 1) k)) Q)
    iintro ⟨#HF, H⟩ Hk
    iapply (h i (le_refl i) (by omega) _) $$ [H]
    · isplitr; · iexact HF
      iexact H
    iintro H
    iapply (ih (i + 1) k Q fun j h1 h2 k => h j (by omega) (by omega) k) $$ [H]
    · isplitr; · iexact HF
      iexact H
    rw [show i + 1 + n = i + (n + 1) by omega]
    iexact Hk

/-- A device before reduce-scatter iteration `i`, `i` at most 14. -/
def rsAll (c : Dev nD) (i : ℕ) : sProp (MM F) :=
  iprop(ins X W c ∗ com c (4 * i) (4 * i + 4) ∗ locs c false ∗ locs c true ∗ all4 (fun d s => rsSt X W c d s i))
/-- A device after the reduce-scatter. -/
def rsDone (c : Dev nD) : sProp (MM F) :=
  iprop(ins X W c ∗ com c 60 64 ∗ locs c false ∗ locs c true ∗ all4 (fun d s => rsEnd X W c d s))

theorem rs_iter (c : Dev nD) (i : ℕ) (hi : i < 14) (k : KProg F) (Q : PUnit → sProp (MM F)) :
    iprop(facts X W K ∗ rsAll X W c i) ⊢ iprop((rsAll X W c (i + 1) -∗ run c k Q) -∗ run c (rsIterK c i k) Q) := by
  unfold rsAll rsIterK
  iintro ⟨#HF, ⟨Hx, Hw⟩, Hcom, Hlf, Hlt, H1, H2, H3, H4⟩ Hk
  iapply (wp_dotsK c i (by omega) (X c) (W c) _ Q) $$ [Hx Hw]
  · isplitl [Hx] <;> iassumption
  iintro ⟨Hx, Hw⟩
  iapply (rs_cell X W K c false 0 i hi (4 * i) rfl _ Q) $$ [Hcom Hlf H1]
  · isplitr; · iexact HF
    isplitl [Hcom]; · iexact Hcom
    isplitl [Hlf] <;> iassumption
  iintro ⟨Hcom, Hlf, H1⟩
  iapply (rs_cell X W K c true 0 i hi (4 * i + 1) rfl _ Q) $$ [Hcom Hlt H2]
  · isplitr; · iexact HF
    isplitl [Hcom]; · iexact Hcom
    isplitl [Hlt] <;> iassumption
  iintro ⟨Hcom, Hlt, H2⟩
  iapply (rs_cell X W K c false 1 i hi (4 * i + 2) rfl _ Q) $$ [Hcom Hlf H3]
  · isplitr; · iexact HF
    isplitl [Hcom]; · iexact Hcom
    isplitl [Hlf] <;> iassumption
  iintro ⟨Hcom, Hlf, H3⟩
  iapply (rs_cell X W K c true 1 i hi (4 * i + 3) rfl _ Q) $$ [Hcom Hlt H4]
  · isplitr; · iexact HF
    isplitl [Hcom]; · iexact Hcom
    isplitl [Hlt] <;> iassumption
  iintro ⟨Hcom, Hlt, H4⟩
  iapply Hk
  isplitl [Hx Hw]
  · isplitl [Hx] <;> iassumption
  isplitl [Hcom]; · iexact Hcom
  isplitl [Hlf]; · iexact Hlf
  isplitl [Hlt]; · iexact Hlt
  isplitl [H1]; · iexact H1
  isplitl [H2]; · iexact H2
  isplitl [H3] <;> iassumption

theorem rs_iter_end (c : Dev nD) (k : KProg F) (Q : PUnit → sProp (MM F)) :
    iprop(facts X W K ∗ rsAll X W c 14) ⊢ iprop((rsDone X W c -∗ run c k Q) -∗ run c (rsIterK c 14 k) Q) := by
  unfold rsAll rsDone rsIterK
  iintro ⟨#HF, ⟨Hx, Hw⟩, Hcom, Hlf, Hlt, H1, H2, H3, H4⟩ Hk
  iapply (wp_dotsK c 14 (by omega) (X c) (W c) _ Q) $$ [Hx Hw]
  · isplitl [Hx] <;> iassumption
  iintro ⟨Hx, Hw⟩
  iapply (rs_cell_end X W K c false 0 56 rfl _ Q) $$ [Hcom Hlf H1]
  · isplitr; · iexact HF
    isplitl [Hcom]; · iexact Hcom
    isplitl [Hlf] <;> iassumption
  iintro ⟨Hcom, Hlf, H1⟩
  iapply (rs_cell_end X W K c true 0 57 rfl _ Q) $$ [Hcom Hlt H2]
  · isplitr; · iexact HF
    isplitl [Hcom]; · iexact Hcom
    isplitl [Hlt] <;> iassumption
  iintro ⟨Hcom, Hlt, H2⟩
  iapply (rs_cell_end X W K c false 1 58 rfl _ Q) $$ [Hcom Hlf H3]
  · isplitr; · iexact HF
    isplitl [Hcom]; · iexact Hcom
    isplitl [Hlf] <;> iassumption
  iintro ⟨Hcom, Hlf, H3⟩
  iapply (rs_cell_end X W K c true 1 59 rfl _ Q) $$ [Hcom Hlt H4]
  · isplitr; · iexact HF
    isplitl [Hcom]; · iexact Hcom
    isplitl [Hlt] <;> iassumption
  iintro ⟨Hcom, Hlt, H4⟩
  iapply Hk
  isplitl [Hx Hw]
  · isplitl [Hx] <;> iassumption
  isplitl [Hcom]; · iexact Hcom
  isplitl [Hlf]; · iexact Hlf
  isplitl [Hlt]; · iexact Hlt
  isplitl [H1]; · iexact H1
  isplitl [H2]; · iexact H2
  isplitl [H3] <;> iassumption

/-- The reduce-scatter. -/
theorem rs_loop (c : Dev nD) (k : KProg F) (Q : PUnit → sProp (MM F)) :
    iprop(facts X W K ∗ rsAll X W c 0) ⊢ iprop((rsDone X W c -∗ run c k Q) -∗ run c (itersK (rsIterK c) 15 0 k) Q) := by
  rw [itersK_last]
  iintro ⟨#HF, H⟩ Hk
  iapply (iters X W K c (rsIterK c) (rsAll X W c) 14 0 _ Q fun j _ h k => rs_iter X W K c j (by omega) k Q) $$ [H]
  · isplitr; · iexact HF
    iexact H
  rw [show 0 + 14 = 14 from rfl]
  iintro H
  iapply (rs_iter_end X W K c k Q) $$ [H]
  · isplitr; · iexact HF
    iexact H
  iexact Hk

/-- A device before all-gather iteration `i + 1`. -/
def agAll (c : Dev nD) (i : ℕ) : sProp (MM F) := iprop(com c (4 * (i + 1)) (4 * (i + 1) + 4) ∗ all4 (fun d s => agSt X W c d s i))

theorem ag_iter (c : Dev nD) (i : ℕ) (hi : 14 ≤ i) (hi' : i < 28) (k : KProg F) (Q : PUnit → sProp (MM F)) :
    iprop(facts X W K ∗ agAll X W c i) ⊢ iprop((agAll X W c (i + 1) -∗ run c k Q) -∗ run c (agIterK c (i + 1) k) Q) := by
  unfold agAll agIterK
  iintro ⟨#HF, Hcom, H1, H2, H3, H4⟩ Hk
  iapply (ag_cell X W K c false 0 i hi hi' (4 * (i + 1)) rfl _ Q) $$ [Hcom H1]
  · isplitr; · iexact HF
    isplitl [Hcom] <;> iassumption
  iintro ⟨Hcom, H1⟩
  iapply (ag_cell X W K c true 0 i hi hi' (4 * (i + 1) + 1) rfl _ Q) $$ [Hcom H2]
  · isplitr; · iexact HF
    isplitl [Hcom] <;> iassumption
  iintro ⟨Hcom, H2⟩
  iapply (ag_cell X W K c false 1 i hi hi' (4 * (i + 1) + 2) rfl _ Q) $$ [Hcom H3]
  · isplitr; · iexact HF
    isplitl [Hcom] <;> iassumption
  iintro ⟨Hcom, H3⟩
  iapply (ag_cell X W K c true 1 i hi hi' (4 * (i + 1) + 3) rfl _ Q) $$ [Hcom H4]
  · isplitr; · iexact HF
    isplitl [Hcom] <;> iassumption
  iintro ⟨Hcom, H4⟩
  iapply Hk
  isplitl [Hcom]; · iexact Hcom
  isplitl [H1]; · iexact H1
  isplitl [H2]; · iexact H2
  isplitl [H3] <;> iassumption

/-- The all-gather. -/
theorem ag_loop (c : Dev nD) (k : KProg F) (Q : PUnit → sProp (MM F)) :
    iprop(facts X W K ∗ agAll X W c 14) ⊢ iprop((agAll X W c 28 -∗ run c k Q) -∗ run c (itersK (agIterK c) 14 15 k) Q) :=
  iters X W K c (agIterK c) (fun i => agAll X W c (i - 1)) 14 15 k Q fun j h1 h2 k => by
    obtain ⟨i, rfl⟩ : ∃ i, j = i + 1 := ⟨j - 1, by omega⟩
    exact ag_iter X W K c i (by omega) (by omega) k Q

/-! ## The end -/

/-- A chain after its last hop arrived. -/
def lastSt (c : Dev nD) (d : Bool) (s : Fin 2) : sProp (MM F) :=
  iprop(agSt X W c d s 28 ∗ hold c (oBlk d s (up d c 31)) (val X W 30 c d s))

theorem last_cell (c : Dev nD) (d : Bool) (s : Fin 2) (w : ℕ) (hw : w = wOf d s 29) (k : KProg F) (Q : PUnit → sProp (MM F)) :
    iprop(facts X W K ∗ com c w 120 ∗ agSt X W c d s 28)
      ⊢ iprop(((com c (w + 1) 120 ∗ lastSt X W c d s) -∗ run c k Q) -∗ run c (waitK (recvSem d s 29) (sendBlk d s c 14) k) Q) := by
  iintro ⟨#HF, Hcom, H⟩ Hk
  iapply (recv_step X W K c d s 29 (by omega) (sendBlk d s c 14) (credit_sendBlk d s c _) w 120 hw (by rw [hw]; exact w_lt d s 29 (by omega)) _ Q) $$ [Hcom]
  · isplitr; · iexact HF
    iexact Hcom
  rw [show recvPay X W c d s 29 = iprop(hold c (oBlk d s (up d c 31)) (val X W 29 (up d c 1) d s) ∗ carried (up d c 1) d s 29) from rfl,
    ← val_ag X W 29 (by omega) c d s]
  iintro ⟨⟨Hb, -⟩, Hcom⟩
  iapply Hk
  isplitl [Hcom]; · iexact Hcom
  unfold lastSt
  isplitl [H] <;> iassumption

theorem last_iter (c : Dev nD) (k : KProg F) (Q : PUnit → sProp (MM F)) :
    iprop(facts X W K ∗ agAll X W c 28) ⊢ iprop(((com c 120 120 ∗ all4 (fun d s => lastSt X W c d s)) -∗ run c k Q) -∗ run c (lastIterK c k) Q) := by
  unfold agAll lastIterK
  iintro ⟨#HF, Hcom, H1, H2, H3, H4⟩ Hk
  iapply (last_cell X W K c false 0 116 rfl _ Q) $$ [Hcom H1]
  · isplitr; · iexact HF
    isplitl [Hcom] <;> iassumption
  iintro ⟨Hcom, H1⟩
  iapply (last_cell X W K c true 0 117 rfl _ Q) $$ [Hcom H2]
  · isplitr; · iexact HF
    isplitl [Hcom] <;> iassumption
  iintro ⟨Hcom, H2⟩
  iapply (last_cell X W K c false 1 118 rfl _ Q) $$ [Hcom H3]
  · isplitr; · iexact HF
    isplitl [Hcom] <;> iassumption
  iintro ⟨Hcom, H3⟩
  iapply (last_cell X W K c true 1 119 rfl _ Q) $$ [Hcom H4]
  · isplitr; · iexact HF
    isplitl [Hcom] <;> iassumption
  iintro ⟨Hcom, H4⟩
  iapply Hk
  isplitl [Hcom]; · iexact Hcom
  isplitl [H1]; · iexact H1
  isplitl [H2]; · iexact H2
  isplitl [H3] <;> iassumption

/-- A chain's semaphores at rest. -/
def chainSem (c : Dev nD) (d : Bool) (s : Fin 2) : sProp (MM F) :=
  iprop(semVal ((c : Thread nD τ), .dma (sendSem d s 0)) 0 ∗ semVal ((c : Thread nD τ), .dma (sendSem d s 1)) 0)

theorem drain (c : Dev nD) (d : Bool) (s : Fin 2) (k : KProg F) (Q : PUnit → sProp (MM F)) :
    iprop(facts X W K ∗ owesE c (owing c 120) ∗ lastSt X W c d s)
      ⊢ iprop(((owesE c (owing c 120) ∗ got X W c d s 31 ∗ chainSem c d s) -∗ run c k Q) -∗ run c (drainK d s c k) Q) := by
  unfold lastSt agSt drainK
  iintro ⟨#HF, HO, ⟨Hf, Hf', Hg⟩, Hb⟩ Hk
  ihave Hm := (wait_send X W K c d s 28 120) $$ HF
  iapply (wp_waitK c (sendSem d s 28) (sentBlk d s c 28) N (credit_sent d s c 28) (srcHold X W c d s 28) (owing c 120) _ Q) $$ [Hf' HO Hm]
  · isplitl [Hf']; · iexact Hf'
    isplitl [HO] <;> iassumption
  iintro ⟨Hs, Hv, HO⟩
  ihave Hg := (got_step X W c d s 28) $$ [Hs Hg]
  · isplitl [Hs] <;> iassumption
  ihave Hm := (wait_send X W K c d s 29 120) $$ HF
  iapply (wp_waitK c (sendSem d s 29) (sentBlk d s c 29) N (credit_sent d s c 29) (srcHold X W c d s 29) (owing c 120) _ Q) $$ [Hf HO Hm]
  · isplitl [Hf]; · iexact Hf
    isplitl [HO] <;> iassumption
  iintro ⟨Hs, Hv', HO⟩
  ihave Hg := (got_step X W c d s 29) $$ [Hs Hg]
  · isplitl [Hs] <;> iassumption
  ihave Hg := (got_step X W c d s 30) $$ [Hb Hg]
  · isplitl [Hb]
    · unfold srcHold; rw [srcBlk_late d s c 30 (by omega)]; iexact Hb
    · iexact Hg
  iapply Hk
  isplitl [HO]; · iexact HO
  isplitl [Hg]; · iexact Hg
  unfold chainSem
  isplitl [Hv]
  · rw [show sendSem d s 28 = sendSem d s 0 from rfl]; iexact Hv
  · rw [show sendSem d s 29 = sendSem d s 1 from rfl]; iexact Hv'

end Cert.KernelIdeal.Ring

end
-- ==== Proof.Barrier.lean ====
/-
The handshake before the first hop: each device hands the places in its output to the two neighbours that write there.
-/
module

public import proofs.«01_k».proof.Proof.Loop

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]
variable (X : Dev nD → Vec F S8192x512 .f32) (W : Dev nD → Vec F S512x4096 .f32)
variable (K : Dev nD × Option (Fin 120) → ℕ)

/-! ## Around the ring -/

theorem up_image (d : Bool) (c : Dev nD) (a : ℕ) : (Finset.univ : Finset (Dev nD)) = (Finset.Ico 0 16).image (fun m => up d c (m + a)) := by
  refine (Finset.eq_univ_of_forall fun ch => ?_).symm
  have h : ∀ (d : Bool) (e ch : Dev nD), ∃ m : Fin 16, up d e m.val = ch := by decide
  obtain ⟨m, hm⟩ := h d (up d c a) ch
  rw [up_up, Nat.add_comm] at hm
  exact Finset.mem_image.mpr ⟨m.val, Finset.mem_Ico.mpr ⟨Nat.zero_le _, m.isLt⟩, hm⟩
theorem up_inj (d : Bool) (c : Dev nD) (m n : ℕ) (hm : m < 16) (hn : n < 16) (h : up d c m = up d c n) : m = n := by
  have h' : ∀ (d : Bool) (c : Dev nD) (m n : Fin 16), up d c m.val = up d c n.val → m = n := by decide
  exact congrArg Fin.val (h' d c ⟨m, hm⟩ ⟨n, hn⟩ h)

/-- All chunks, counted upstream from a device. -/
theorem around (d : Bool) (c : Dev nD) (a : ℕ) (Φ : Dev nD → sProp (MM F)) :
    bigSep Finset.univ Φ = bigSep (Finset.Ico 0 16) (fun m => Φ (up d c (m + a))) := by
  rw [up_image d c a]
  refine Finset.fold_image fun x hx y hy h => ?_
  refine up_inj d (up d c a) x y (Finset.mem_Ico.mp hx).2 (Finset.mem_Ico.mp hy).2 ?_
  rw [up_up, up_up, Nat.add_comm a x, Nat.add_comm a y]; exact h

theorem bigSep_bool (Φ : Bool → sProp (MM F)) : bigSep Finset.univ Φ = iprop(Φ false ∗ Φ true) :=
  bigSep_univ_eq_bigSepL [false, true] (by decide) (by decide) Φ

theorem bigSep_two (Φ : Fin 2 → sProp (MM F)) : bigSep Finset.univ Φ = iprop(Φ 0 ∗ Φ 1) := bigSep_fin_two Φ

/-- The output's blocks, chain by chain. -/
theorem blk_split (Φ : Dev nD → Bool → Fin 2 → sProp (MM F)) :
    (bigSep Finset.univ fun t : Blk => Φ t.1 t.2.1 t.2.2)
      = iprop(((bigSep Finset.univ fun ch => Φ ch false 0) ∗ bigSep Finset.univ fun ch => Φ ch false 1)
        ∗ (bigSep Finset.univ fun ch => Φ ch true 0) ∗ bigSep Finset.univ fun ch => Φ ch true 1) := by
  rw [bigSep_univ_prod]
  simp only [bigSep_univ_prod, bigSep_bool, bigSep_two]
  rw [bigSep_sep', bigSep_sep', bigSep_sep']

/-- A device's output columns of one direction, as its neighbour writes them. -/
theorem out_pay (c : Dev nD) (d : Bool) :
    iprop((bigSep Finset.univ fun ch => have_ (F := F) c (oBlk d 0 ch)) ∗ bigSep Finset.univ fun ch => have_ (F := F) c (oBlk d 1 ch)) ⊢ barPay (up d c 1) d := by
  unfold barPay dests
  rw [toDev_eq, up_up, up_sixteen, around d (up d c 1) 1, around d (up d c 1) 1]

/-! ## The barrier -/

theorem bar_rest (c : Dev nD) :
    bigSep ((ringRd X W).duties (barCell c) 0 \ ∅) (fun b => (ringRd X W).payload (barCell c) 0 b) = iprop(barPay c false ∗ barPay c true) := by
  rw [Finset.sdiff_empty, duties_bar, bigSep_bool, payload_bar, payload_bar]
theorem bar_expect (c : Dev nD) : (ringRd X W).expect (barCell c) 0 = 2 := by
  unfold Schedule.expect Schedule.amountOf
  rw [duties_bar, Fintype.sum_bool, amount_bar, amount_bar]

theorem dev1_eq (c : Dev nD) : (⟨k0_dev1 c, k0_dev1_lt c⟩ : Dev nD) = up false c 1 := Fin.ext ((k0_dev1_eq c).trans (by revert c; decide))
theorem dev2_eq (c : Dev nD) : (⟨k0_dev2 c, k0_dev2_lt c⟩ : Dev nD) = up true c 1 := Fin.ext ((k0_dev2_eq c).trans (by revert c; decide))

/-- What a device owes at the start: the two signals, then the hops. -/
def owed2 (c : Dev nD) : CellTallies nD τ sig Unit := owing c 0 + tallyAt (barCell (up true c 1)) () 1
def owed1 (c : Dev nD) : CellTallies nD τ sig Unit := owed2 c + tallyAt (barCell (up false c 1)) () 1

attribute [local irreducible] owing lv

theorem wait_bar (c : Dev nD) : facts X W K ⊢ MayWait (c : Thread nD τ) (.reg barSem) () (owing c 0) := by
  unfold facts
  iintro ⟨-, -, H⟩
  iapply (mayWait_owing c (.reg barSem) 0 1 (by unfold lv; rw [cxOf_bar]) (by omega)) $$ H

/-- The handshake. -/
def barK (c : Dev nD) (k : KProg F) : KProg F :=
  .op (.semSignal ((⟨k0_dev1 c, k0_dev1_lt c⟩ : Dev nD), .tc) barSem (1#32).toInt) fun _ =>
  .op (.semSignal ((⟨k0_dev2 c, k0_dev2_lt c⟩ : Dev nD), .tc) barSem (1#32).toInt) fun _ =>
  .op (.semWait barSem (2#32).toInt) fun _ => k

/-- What a device brings to the handshake beside its output. -/
def barGhost (c : Dev nD) : sProp (MM F) :=
  iprop(dutyTok ER (barCell (up false c 1)) 0 false ∗ dutyTok ER (barCell (up true c 1)) 0 true ∗ atPos ER (barCell c) 0 ∅ 0 ∗ cred (tallyAt (barCell c) () 2))

theorem bar_step (c : Dev nD) (k : KProg F) (Q : PUnit → sProp (MM F)) :
    iprop(facts X W K ∗ owesE c (owed1 c) ∗ barGhost c ∗ barPay (up false c 1) false ∗ barPay (up true c 1) true)
      ⊢ iprop(((owesE c (owing c 0) ∗ semVal (barCell c) 0 ∗ barPay c false ∗ barPay c true) -∗ run c k Q) -∗ run c (barK c k) Q) := by
  unfold barK barGhost owesE
  rw [dev1_eq, dev2_eq]
  iintro ⟨#HF, ⟨%S, HO⟩, ⟨Ht1, Ht2, Ha, Hc⟩, HP1, HP2⟩ Hk
  ihave Hi1 := (facts_inv X W K (up false c 1, none)) $$ HF
  ihave Hi2 := (facts_inv X W K (up true c 1, none)) $$ HF
  ihave #Hi := (facts_inv X W K (c, none)) $$ HF
  ihave Hr1 := (facts_reached X W K (up false c 1, none)) $$ HF
  ihave Hr2 := (facts_reached X W K (up true c 1, none)) $$ HF
  ihave Hm := (wait_bar X W K c) $$ HF
  iapply (Rounds.wp_signal 𝒱₀ ER (ringRd X W) (c : Thread nD τ) none (dst := (up false c 1 : Thread nD τ)) (κ := K (up false c 1, none))
      (d := false) (by rw [duties_bar]; exact Finset.mem_univ _) ((amount_bar X W (up false c 1) false).trans (by decide)) () (owed2 c) rfl)
    $$ [Hi1 HO Ht1 HP1 Hr1]
  · isplitl [Hi1]; · iexact Hi1
    isplitl [HO]; · iexact HO
    isplitl [Ht1]; · iexact Ht1
    isplitl [HP1]; · rw [payload_bar]; iexact HP1
    iexact Hr1
  iintro HO
  iapply (Rounds.wp_signal 𝒱₀ ER (ringRd X W) (c : Thread nD τ) none (dst := (up true c 1 : Thread nD τ)) (κ := K (up true c 1, none))
      (d := true) (by rw [duties_bar]; exact Finset.mem_univ _) ((amount_bar X W (up true c 1) true).trans (by decide)) () (owing c 0) rfl)
    $$ [Hi2 HO Ht2 HP2 Hr2]
  · isplitl [Hi2]; · iexact Hi2
    isplitl [HO]; · iexact HO
    isplitl [Ht2]; · iexact Ht2
    isplitl [HP2]; · rw [payload_bar]; iexact HP2
    iexact Hr2
  iintro HO
  iapply (Rounds.wp_wait_rest_token 𝒱₀ ER (ringRd X W) (c : Thread nD τ) none (κ := K (c, none))
      (wpE_semWait_eq 𝒱₀ (c : Thread nD τ) none Set.univ) (Set.mem_univ _) () (O := owing c 0) (W := S) (R := 0) (m := 0) (T := ∅)
      (by rw [bar_expect]; decide)) $$ [Hc HO Ha Hm]
  · isplitr; · iexact Hi
    isplitl [Hc]; · iexact Hc
    isplitl [HO]; · iexact HO
    isplitl [Hm]; · iexact Hm
    iexact Ha
  iintro ⟨HO, Ha, -, Hp⟩
  ihave Hp := (Entails.of_eq (bar_rest X W c)) $$ Hp
  imod (Rounds.cell_close ER (ringRd X W) (Set.mem_univ (K (c, none))) (fun h => h) (R := 0 + 1) (duties_later X W (barCell c))) $$ [Ha] with Hz
  · isplitr; · iexact Hi
    iexact Ha
  iapply Hk
  isplitl [HO]; · iexists _; iexact HO
  isplitl [Hz] <;> iassumption

end Cert.KernelIdeal.Ring

end
-- ==== Proof.Body.lean ====
/-
The whole body on one device: from its buffers, its accounts and its share of the handshake, to the finished output.
-/
module

public import proofs.«01_k».proof.Proof.Barrier

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]
variable (X : Dev nD → Vec F S8192x512 .f32) (W : Dev nD → Vec F S512x4096 .f32)
variable (K : Dev nD × Option (Fin 120) → ℕ)

/-! ## Around the output -/

theorem bigSep_shift (a b n : ℕ) (Φ : ℕ → sProp (MM F)) : bigSep (Finset.Ico (a + n) (b + n)) Φ = bigSep (Finset.Ico a b) fun u => Φ (u + n) := by
  have e : Finset.Ico (a + n) (b + n) = (Finset.Ico a b).map ⟨fun u => u + n, fun x y h => Nat.add_right_cancel h⟩ := by
    ext k
    rw [Finset.mem_map, Finset.mem_Ico]
    constructor
    · intro h; exact ⟨k - n, Finset.mem_Ico.mpr (by omega), by show k - n + n = k; omega⟩
    · rintro ⟨u, hu, rfl⟩; have := Finset.mem_Ico.mp hu; show _ ≤ u + n ∧ u + n < _; omega
  rw [e, bigSep_map]
  rfl

/-- A chain's sixteen finished blocks: the device's own and the fifteen that arrived. -/
theorem got_all (c : Dev nD) (d : Bool) (s : Fin 2) :
    iprop(got X W c d s 31 ∗ hold c (oBlk d s c) (val X W 15 c d s)) ⊢ bigSep Finset.univ fun ch => hold c (oBlk d s ch) (val X W 15 ch d s) := by
  unfold got
  rw [around d c 16, Ico_peel (show 0 < 16 by omega), bigSep_insert Ico_bot, show Finset.Ico 16 31 = Finset.Ico (1 + 15) (16 + 15) from rfl, bigSep_shift,
    show up d c (0 + 16) = c from up_sixteen d c,
    bigSep_congr (s := Finset.Ico (0 + 1) 16) (Φ := fun m => hold c (oBlk d s (up d c (m + 16))) (val X W 15 (up d c (m + 16)) d s))
      (Ψ := fun m => hold c (oBlk d s (up d c (m + 15 + 1))) (val X W (m + 15) c d s)) (fun m _ => by
        rw [Nat.add_comm m 15, val_fin, up_mod d c (15 + m + 1) (m + 16) (by omega), up_mod d c m (m + 16) (by omega)])]
  show _ ⊢ iprop(_ ∗ _)
  iintro ⟨H1, H2⟩
  isplitl [H2] <;> iassumption

/-- What the output ends as, block by block. -/
abbrev outV (t : Blk) : Vec F S512x1024 .f32 := val X W 15 t.1 t.2.1 t.2.2

/-- The output, from its four chains. -/
theorem out_all (c : Dev nD) :
    iprop((((bigSep Finset.univ fun ch => hold c (oBlk false 0 ch) (val X W 15 ch false 0)) ∗ bigSep Finset.univ fun ch => hold c (oBlk false 1 ch) (val X W 15 ch false 1))
        ∗ (bigSep Finset.univ fun ch => hold c (oBlk true 0 ch) (val X W 15 ch true 0)) ∗ bigSep Finset.univ fun ch => hold c (oBlk true 1 ch) (val X W 15 ch true 1)))
      ⊢ iprop(∃ O, ⌜IsOut (outV X W) O⌝ ∗ hold c oM O) := by
  rw [← blk_split (fun ch d s => hold c (oBlk d s ch) (val X W 15 ch d s))]
  exact out_join c (outV X W)

/-! ## A direction's buffers -/

/-- A direction's scratch buffers. -/
def bufs (c : Dev nD) (d : Bool) : sProp (MM F) := iprop(have_ c (accM d) ∗ have_ c (tmpM d))
/-- A direction's semaphores beside the receives', at rest. -/
def dirSem (c : Dev nD) (d : Bool) : sProp (MM F) := iprop(chainSem c d 0 ∗ chainSem c d 1 ∗ locs c d ∗ semVal ((c : Thread nD τ), .dma (copySem d)) 0)

/-- A direction once its first partial product is staged. -/
def staged (c : Dev nD) (d : Bool) : sProp (MM F) :=
  iprop(hold c (wideV (accM d) 0) (part (X c) (W c) d (up d c 1)) ∗ have_ c (wideV (accM d) 1)
    ∗ hold c (wideV (sumM d) 0) (part (X c) (W c) d (up d c 1)) ∗ have_ c (wideV (sumM d) 1) ∗ have_ c (tmpM d))

theorem mk_chain0 (c : Dev nD) (d : Bool) :
    iprop(staged X W c d ∗ barPay c d ∗ chainSem c d 0 ∗ chainSem c d 1) ⊢ iprop(chain0 X W c d 0 ∗ chain0 X W c d 1) := by
  unfold staged barPay chainSem chain0
  iintro ⟨⟨Ha, Ha1, Hs, Hs1, Ht⟩, ⟨Hd0, Hd1⟩, ⟨Hv00, Hv01⟩, ⟨Hv10, Hv11⟩⟩
  ihave Ha := (have_of_hold c _ _) $$ Ha
  ihave Ha := (slot_have (accM d) c 0) $$ Ha
  icases Ha with ⟨Ha00, Ha01⟩
  ihave Ha1 := (slot_have (accM d) c 1) $$ Ha1
  icases Ha1 with ⟨Ha10, Ha11⟩
  ihave Hs := (hold_split (sumM d) c 0 _) $$ Hs
  icases Hs with ⟨Hs00, Hs01⟩
  ihave Hs1 := (slot_have (sumM d) c 1) $$ Hs1
  icases Hs1 with ⟨Hs10, Hs11⟩
  ihave Ht := (tmp_have c d) $$ Ht
  icases Ht with ⟨Ht0, Ht1⟩
  isplitl [Hs00 Hs10 Hv00 Hv01 Hd0 Ha00 Ha10 Ht0]
  · isplitl [Hs00]; · iexact Hs00
    isplitl [Hs10]; · iexact Hs10
    isplitl [Hv00]; · iexact Hv00
    isplitl [Hv01]; · iexact Hv01
    isplitl [Hd0]; · iexact Hd0
    isplitl [Ha00]; · iexact Ha00
    isplitl [Ha10] <;> iassumption
  · isplitl [Hs01]; · iexact Hs01
    isplitl [Hs11]; · iexact Hs11
    isplitl [Hv10]; · iexact Hv10
    isplitl [Hv11]; · iexact Hv11
    isplitl [Hd1]; · iexact Hd1
    isplitl [Ha01]; · iexact Ha01
    isplitl [Ha11] <;> iassumption

/-- The device's own chunk, one direction's columns. -/
abbrev ownV (c : Dev nD) (d : Bool) : Vec F S512x2048 .f32 := joinW (val X W 15 c d 0) (val X W 15 c d 1)

theorem own_out (c : Dev nD) (d : Bool) :
    hold c (ownRows d c) (ownV X W c d) ⊢ iprop(hold c (oBlk d 0 c) (val X W 15 c d 0) ∗ hold c (oBlk d 1 c) (val X W 15 c d 1)) := by
  have h := own_split d c (ownV X W c d)
  rw [show halfP 0 (ownV X W c d) = val X W 15 c d 0 from halfP_joinW (fun s => val X W 15 c d s) 0,
    show halfP 1 (ownV X W c d) = val X W 15 c d 1 from halfP_joinW (fun s => val X W 15 c d s) 1] at h
  exact h

/-- A direction's own chunk ready to be copied out; its other buffers at rest. -/
def ownPre (c : Dev nD) (d : Bool) : sProp (MM F) :=
  iprop(hold c (wideV (accM d) 1) (ownV X W c d) ∗ have_ c (ownRows d c) ∗ have_ c (wideV (accM d) 0) ∗ have_ c (tmpM d))

theorem rsEnd_own (c : Dev nD) (d : Bool) :
    iprop(rsEnd X W c d 0 ∗ rsEnd X W c d 1) ⊢ iprop(agSt X W c d 0 14 ∗ agSt X W c d 1 14 ∗ ownPre X W c d) := by
  iintro ⟨H0, H1⟩
  ihave H0 := (rsEnd_agSt X W c d 0) $$ H0
  ihave H1 := (rsEnd_agSt X W c d 1) $$ H1
  icases H0 with ⟨G0, A0, B0, T0, O0⟩
  icases H1 with ⟨G1, A1, B1, T1, O1⟩
  isplitl [G0]; · iexact G0
  isplitl [G1]; · iexact G1
  unfold ownPre
  isplitl [B0 B1]
  · iapply (hold_join (accM d) c 1 (fun s => val X W 15 c d s))
    isplitl [B0] <;> iassumption
  isplitl [O0 O1]
  · iapply (own_have d c)
    isplitl [O0] <;> iassumption
  isplitl [A0 A1]
  · iapply (have_slot (accM d) c 0)
    isplitl [A0] <;> iassumption
  · iapply (have_tmp c d)
    isplitl [T0] <;> iassumption

/-! ## The body -/

/-- What device `c` starts the body with. -/
def bodyIn (c : Dev nD) : sProp (MM F) :=
  iprop(ins X W c ∗ have_ c oM ∗ (have_ c (sumM false) ∗ have_ c (sumM true)) ∗ (bufs c false ∗ bufs c true) ∗ (dirSem c false ∗ dirSem c true)
    ∗ owesE c (owed1 c) ∗ barGhost c ∗ toks c 0 ∗ poss c 0)
/-- What it ends it with. -/
def bodyOut (c : Dev nD) : sProp (MM F) :=
  iprop(ins X W c ∗ (∃ O, ⌜IsOut (outV X W) O⌝ ∗ hold c oM O) ∗ (bufs c false ∗ bufs c true) ∗ (dirSem c false ∗ dirSem c true)
    ∗ owesE c (owing c 120) ∗ closed c 120 ∗ semVal (barCell c) 0)

/-- The first partial products, staged in HBM. -/
def stagingK (c : Dev nD) (k : KProg F) : KProg F :=
  seedK false c <| seedK true c <|
  copyK (stageSem false) (wideV (accM false) 0) (wideV (sumM false) 0) ⟨Or.inl rfl, trivial⟩ <|
  copyK (stageSem true) (wideV (accM true) 0) (wideV (sumM true) 0) ⟨Or.inl rfl, trivial⟩ k
def hops0K (c : Dev nD) (k : KProg F) : KProg F :=
  sendK false 0 c 0 (slotV (sumM false) 0 0) (sendBlk false 0 c 1) <|
  sendK true 0 c 0 (slotV (sumM true) 0 0) (sendBlk true 0 c 1) <|
  sendK false 1 c 0 (slotV (sumM false) 0 1) (sendBlk false 1 c 1) <|
  sendK true 1 c 0 (slotV (sumM true) 0 1) (sendBlk true 1 c 1) k
def endK (c : Dev nD) : KProg F :=
  drainK false 0 c <| drainK false 1 c <| drainK true 0 c <| drainK true 1 c <|
  waitK (copySem false) (ownRows false c) <| waitK (copySem true) (ownRows true c) (.ret ⟨⟩)

theorem bodyK_eq (c : Dev nD) : bodyK (F := F) c = (stagingK c <| barK c <| hops0K c <| itersK (rsIterK c) 15 0 <|
  ownStartK false c <| ownStartK true c <| itersK (agIterK c) 14 15 <| lastIterK c <| endK c) := rfl

attribute [local irreducible] owing lv

/-- Owing nothing but the launch debts, a device may wait for what its own device completes. -/
theorem wait_low1 (c : Dev nD) (q : DmaSem sig) (h : q.val < 6 ∨ (66 ≤ q.val ∧ q.val < 70) ∨ 130 ≤ q.val) :
    (levAts L lv : sProp (MM F)) ⊢ MayWait (c : Thread nD τ) (.dma q) () (owed1 c) := by
  have hl := lv_low c q h
  have hb : ∀ e : Dev nD, lv (barCell e) () = 1 := fun e => by unfold lv; rw [cxOf_bar]
  have hown : ∀ (g : GSem nD τ sig) (u : Unit), 0 < owed1 c g u → L g = {()} ∧ 0 < lv g u := by
    intro g u hg
    unfold owed1 owed2 at hg
    rw [Pi.add_apply, Finsupp.add_apply, Pi.add_apply, Finsupp.add_apply] at hg
    by_cases h1 : 0 < owing c 0 g u
    · obtain ⟨w, -, h2, rfl⟩ := owing_pos c 0 h1
      refine ⟨L_tc _ _, ?_⟩
      show 0 < lv (rCell (toDev (dOf w) c) w) ()
      rw [lv_recv _ w h2]; omega
    · by_cases h2 : g = barCell (up true c 1)
      · subst h2; exact ⟨L_tc _ _, by show 0 < lv (barCell _) (); rw [hb]; exact Nat.one_pos⟩
      · by_cases h3 : g = barCell (up false c 1)
        · subst h3; exact ⟨L_tc _ _, by show 0 < lv (barCell _) (); rw [hb]; exact Nat.one_pos⟩
        · rw [tallyAt_apply, tallyAt_apply, if_neg (fun h => h2 h.1), if_neg (fun h => h3 h.1)] at hg
          omega
  exact MayOwe.of_cut (L := L) (lev := lv) 0 (fun p hp => by rw [Finset.mem_singleton.mp hp, L_tc]; exact Finset.mem_singleton_self _)
    (fun g u hg => by rw [(hown g u hg).1]; exact Finset.mem_singleton_self _)
    (fun p hp => by rw [Finset.mem_singleton.mp hp]; exact hl.le)
    (fun g u hg => (hown g u hg).2)

/-- The local copies' waits owe only what lies above them. -/
theorem wait_stage1 (c : Dev nD) (d : Bool) : facts X W K ⊢ MayWait (c : Thread nD τ) (.dma (stageSem d)) () (owed1 c) := by
  unfold facts
  iintro ⟨-, -, H⟩
  iapply (wait_low1 c (stageSem d) (Or.inr (Or.inr (stageSem_val d)))) $$ H

theorem staging_step (c : Dev nD) (k : KProg F) (Q : PUnit → sProp (MM F)) :
    iprop(facts X W K ∗ ins X W c ∗ (have_ c (sumM false) ∗ have_ c (sumM true)) ∗ (bufs c false ∗ bufs c true) ∗ (locs c false ∗ locs c true) ∗ owesE c (owed1 c))
      ⊢ iprop(((ins X W c ∗ (staged X W c false ∗ staged X W c true) ∗ (locs c false ∗ locs c true) ∗ owesE c (owed1 c)) -∗ run c k Q) -∗ run c (stagingK c k) Q) := by
  unfold stagingK bufs locs
  iintro ⟨#HF, ⟨Hx, Hw⟩, ⟨Hsf, Hst⟩, ⟨⟨Haf, Htf⟩, ⟨Hat, Htt⟩⟩, ⟨⟨Hff, Hgf⟩, ⟨Hft, Hgt⟩⟩, HO⟩ Hk
  ihave Haf := (wide_have (accM false) c) $$ Haf
  icases Haf with ⟨Haf0, Haf1⟩
  ihave Hat := (wide_have (accM true) c) $$ Hat
  icases Hat with ⟨Hat0, Hat1⟩
  ihave Hsf := (wide_have (sumM false) c) $$ Hsf
  icases Hsf with ⟨Hsf0, Hsf1⟩
  ihave Hst := (wide_have (sumM true) c) $$ Hst
  icases Hst with ⟨Hst0, Hst1⟩
  iapply (wp_seedK false c (X c) (W c) _ Q) $$ [Hx Hw Haf0]
  · isplitl [Hx]; · iexact Hx
    isplitl [Hw] <;> iassumption
  iintro ⟨Hx, Hw, Haf0⟩
  iapply (wp_seedK true c (X c) (W c) _ Q) $$ [Hx Hw Hat0]
  · isplitl [Hx]; · iexact Hx
    isplitl [Hw] <;> iassumption
  iintro ⟨Hx, Hw, Hat0⟩
  ihave Hm := (wait_stage1 X W K c false) $$ HF
  iapply (wp_copyK c (stageSem false) (wideV (accM false) 0) (wideV (sumM false) 0) _ (by decide) _ (owed1 c) _ Q) $$ [Haf0 Hsf0 Hgf HO Hm]
  · isplitl [Haf0]; · iexact Haf0
    isplitl [Hsf0]; · iexact Hsf0
    isplitl [Hgf]; · iexact Hgf
    isplitl [HO] <;> iassumption
  iintro ⟨Haf0, Hsf0, Hgf, HO⟩
  ihave Hm := (wait_stage1 X W K c true) $$ HF
  iapply (wp_copyK c (stageSem true) (wideV (accM true) 0) (wideV (sumM true) 0) _ (by decide) _ (owed1 c) _ Q) $$ [Hat0 Hst0 Hgt HO Hm]
  · isplitl [Hat0]; · iexact Hat0
    isplitl [Hst0]; · iexact Hst0
    isplitl [Hgt]; · iexact Hgt
    isplitl [HO] <;> iassumption
  iintro ⟨Hat0, Hst0, Hgt, HO⟩
  iapply Hk
  isplitl [Hx Hw]
  · isplitl [Hx] <;> iassumption
  isplitl [Haf0 Haf1 Hsf0 Hsf1 Htf Hat0 Hat1 Hst0 Hst1 Htt]
  · unfold staged
    isplitl [Haf0 Haf1 Hsf0 Hsf1 Htf]
    · isplitl [Haf0]; · iexact Haf0
      isplitl [Haf1]; · iexact Haf1
      isplitl [Hsf0]; · iexact Hsf0
      isplitl [Hsf1] <;> iassumption
    · isplitl [Hat0]; · iexact Hat0
      isplitl [Hat1]; · iexact Hat1
      isplitl [Hst0]; · iexact Hst0
      isplitl [Hst1] <;> iassumption
  isplitr [HO]
  · isplitl [Hff Hgf]
    · isplitl [Hff] <;> iassumption
    · isplitl [Hft] <;> iassumption
  · iexact HO

theorem hops0_step (c : Dev nD) (k : KProg F) (Q : PUnit → sProp (MM F)) :
    iprop(facts X W K ∗ com c 0 0 ∗ (chain0 X W c false 0 ∗ chain0 X W c false 1) ∗ (chain0 X W c true 0 ∗ chain0 X W c true 1))
      ⊢ iprop(((com c 0 4 ∗ all4 (fun d s => rsSt X W c d s 0)) -∗ run c k Q) -∗ run c (hops0K c k) Q) := by
  unfold hops0K
  iintro ⟨#HF, Hcom, ⟨H1, H3⟩, ⟨H2, H4⟩⟩ Hk
  iapply (hop0 X W K c false 0 0 rfl _ Q) $$ [Hcom H1]
  · isplitr; · iexact HF
    isplitl [Hcom] <;> iassumption
  iintro ⟨Hcom, H1⟩
  iapply (hop0 X W K c true 0 1 rfl _ Q) $$ [Hcom H2]
  · isplitr; · iexact HF
    isplitl [Hcom] <;> iassumption
  iintro ⟨Hcom, H2⟩
  iapply (hop0 X W K c false 1 2 rfl _ Q) $$ [Hcom H3]
  · isplitr; · iexact HF
    isplitl [Hcom] <;> iassumption
  iintro ⟨Hcom, H3⟩
  iapply (hop0 X W K c true 1 3 rfl _ Q) $$ [Hcom H4]
  · isplitr; · iexact HF
    isplitl [Hcom] <;> iassumption
  iintro ⟨Hcom, H4⟩
  iapply Hk
  isplitl [Hcom]; · iexact Hcom
  isplitl [H1]; · iexact H1
  isplitl [H2]; · iexact H2
  isplitl [H3] <;> iassumption

/-- A direction's copy of its own chunk, in flight. -/
abbrev ownFlight (c : Dev nD) (d : Bool) : sProp (MM F) :=
  Flight EC (c : Thread nD τ) (.dma (copySem d)) () (ownRows d c).view.dmaCredit iprop(hold c (ownRows d c) (ownV X W c d) ∗ hold c (wideV (accM d) 1) (ownV X W c d))

theorem end_step (c : Dev nD) (Q : PUnit → sProp (MM F)) :
    iprop(facts X W K ∗ owesE c (owing c 120) ∗ all4 (fun d s => lastSt X W c d s) ∗ ownFlight X W c false ∗ ownFlight X W c true)
      ⊢ iprop(((owesE c (owing c 120) ∗ all4 (fun d s => iprop(got X W c d s 31 ∗ chainSem c d s))
          ∗ (hold c (ownRows false c) (ownV X W c false) ∗ hold c (wideV (accM false) 1) (ownV X W c false)) ∗ semVal ((c : Thread nD τ), .dma (copySem false)) 0
          ∗ (hold c (ownRows true c) (ownV X W c true) ∗ hold c (wideV (accM true) 1) (ownV X W c true)) ∗ semVal ((c : Thread nD τ), .dma (copySem true)) 0)
        -∗ Q ⟨⟩) -∗ run c (endK c) Q) := by
  unfold endK
  iintro ⟨#HF, HO, ⟨H1, H2, H3, H4⟩, Hf, Hf'⟩ Hk
  iapply (drain X W K c false 0 _ Q) $$ [HO H1]
  · isplitr; · iexact HF
    isplitl [HO] <;> iassumption
  iintro ⟨HO, H1⟩
  iapply (drain X W K c false 1 _ Q) $$ [HO H3]
  · isplitr; · iexact HF
    isplitl [HO] <;> iassumption
  iintro ⟨HO, H3⟩
  iapply (drain X W K c true 0 _ Q) $$ [HO H2]
  · isplitr; · iexact HF
    isplitl [HO] <;> iassumption
  iintro ⟨HO, H2⟩
  iapply (drain X W K c true 1 _ Q) $$ [HO H4]
  · isplitr; · iexact HF
    isplitl [HO] <;> iassumption
  iintro ⟨HO, H4⟩
  ihave Hm := (wait_copy X W K c false 120) $$ HF
  iapply (wp_waitK c (copySem false) (ownRows false c) _ rfl _ (owing c 120) _ Q) $$ [Hf HO Hm]
  · isplitl [Hf]; · iexact Hf
    isplitl [HO] <;> iassumption
  iintro ⟨D, Hv, HO⟩
  ihave Hm := (wait_copy X W K c true 120) $$ HF
  iapply (wp_waitK c (copySem true) (ownRows true c) _ rfl _ (owing c 120) _ Q) $$ [Hf' HO Hm]
  · isplitl [Hf']; · iexact Hf'
    isplitl [HO] <;> iassumption
  iintro ⟨D', Hv', HO⟩
  rw [show run c (.ret ⟨⟩ : KProg F) Q = wp frame (wpE (defs₀ (F := F)) 𝒱₀ (c : Thread nD τ) none) Set.univ (.ret ⟨⟩ : KProg F) Q from rfl, wp_ret]
  imodintro
  iapply Hk
  isplitl [HO]; · iexact HO
  isplitl [H1 H2 H3 H4]
  · isplitl [H1]; · iexact H1
    isplitl [H2]; · iexact H2
    isplitl [H3] <;> iassumption
  isplitl [D]; · iexact D
  isplitl [Hv]; · iexact Hv
  isplitl [D'] <;> iassumption

theorem own_start (c : Dev nD) (d : Bool) (k : KProg F) (Q : PUnit → sProp (MM F)) :
    iprop(ownPre X W c d ∗ semVal ((c : Thread nD τ), .dma (copySem d)) 0)
      ⊢ iprop(((ownFlight X W c d ∗ have_ c (wideV (accM d) 0) ∗ have_ c (tmpM d)) -∗ run c k Q) -∗ run c (ownStartK d c k) Q) := by
  unfold ownPre
  iintro ⟨⟨Ha, Ho, Ha0, Ht⟩, Hv⟩ Hk
  iapply (wp_ownStartK d c (ownV X W c d) k Q) $$ [Ha Ho Hv]
  · isplitl [Ha]; · iexact Ha
    isplitl [Ho] <;> iassumption
  iintro Hf
  iapply Hk
  isplitl [Hf]; · iexact Hf
  isplitl [Ha0] <;> iassumption

theorem bufs_back (c : Dev nD) (d : Bool) : iprop(hold c (wideV (accM d) 1) (ownV X W c d) ∗ have_ c (wideV (accM d) 0) ∗ have_ c (tmpM d)) ⊢ bufs c d := by
  unfold bufs
  iintro ⟨H1, H0, Ht⟩
  ihave H1 := (have_of_hold c _ _) $$ H1
  isplitr [Ht]
  · iapply (have_wide (accM d) c)
    isplitl [H0] <;> iassumption
  · iexact Ht

theorem got_own (c : Dev nD) (d : Bool) :
    iprop(got X W c d 0 31 ∗ got X W c d 1 31 ∗ hold c (ownRows d c) (ownV X W c d))
      ⊢ iprop((bigSep Finset.univ fun ch => hold c (oBlk d 0 ch) (val X W 15 ch d 0)) ∗ bigSep Finset.univ fun ch => hold c (oBlk d 1 ch) (val X W 15 ch d 1)) := by
  iintro ⟨G0, G1, Ho⟩
  ihave Ho := (own_out X W c d) $$ Ho
  icases Ho with ⟨O0, O1⟩
  isplitl [G0 O0]
  · iapply (got_all X W c d 0)
    isplitl [G0] <;> iassumption
  · iapply (got_all X W c d 1)
    isplitl [G1] <;> iassumption

theorem closed_zero (c : Dev nD) : (iprop(emp) : sProp (MM F)) ⊢ closed c 0 := by
  unfold closed
  rw [Finset.Ico_self, bigSep_empty]
  exact .rfl

set_option maxHeartbeats 1000000 in
/-- The body. -/
theorem body (c : Dev nD) (Q : PUnit → sProp (MM F)) :
    iprop(facts X W K ∗ bodyIn X W c) ⊢ iprop((bodyOut X W c -∗ Q ⟨⟩) -∗ run c (bodyK c) Q) := by
  rw [bodyK_eq]
  unfold bodyIn dirSem
  iintro ⟨#HF, Hin, Ho, Hs, Hb, ⟨⟨Cf0, Cf1, Lf, Vf⟩, ⟨Ct0, Ct1, Lt, Vt⟩⟩, HO, HB, Htk, Hp⟩ Hk
  iapply (staging_step X W K c _ Q) $$ [Hin Hs Hb Lf Lt HO]
  · isplitr; · iexact HF
    isplitl [Hin]; · iexact Hin
    isplitl [Hs]; · iexact Hs
    isplitl [Hb]; · iexact Hb
    isplitr [HO]
    · isplitl [Lf] <;> iassumption
    · iexact HO
  iintro ⟨Hin, ⟨Sf, St⟩, ⟨Lf, Lt⟩, HO⟩
  ihave Ho := (out_have c) $$ Ho
  ihave Ho := (Entails.of_eq (blk_split (fun ch d s => have_ (F := F) c (oBlk d s ch)))) $$ Ho
  icases Ho with ⟨Hof, Hot⟩
  ihave Hof := (out_pay c false) $$ Hof
  ihave Hot := (out_pay c true) $$ Hot
  iapply (bar_step X W K c _ Q) $$ [HO HB Hof Hot]
  · isplitr; · iexact HF
    isplitl [HO]; · iexact HO
    isplitl [HB]; · iexact HB
    isplitl [Hof] <;> iassumption
  iintro ⟨HO, Hbar, Pf, Pt⟩
  ihave Cf := (mk_chain0 X W c false) $$ [Sf Pf Cf0 Cf1]
  · isplitl [Sf]; · iexact Sf
    isplitl [Pf]; · iexact Pf
    isplitl [Cf0] <;> iassumption
  ihave Ct := (mk_chain0 X W c true) $$ [St Pt Ct0 Ct1]
  · isplitl [St]; · iexact St
    isplitl [Pt]; · iexact Pt
    isplitl [Ct0] <;> iassumption
  iapply (hops0_step X W K c _ Q) $$ [HO Htk Hp Cf Ct]
  · isplitr; · iexact HF
    isplitl [HO Htk Hp]
    · unfold com
      isplitl [HO]; · iexact HO
      isplitl [Htk]; · iexact Htk
      isplitl [Hp]; · iexact Hp
      iapply (closed_zero c); iempintro
    isplitl [Cf] <;> iassumption
  iintro ⟨Hcom, H4⟩
  iapply (rs_loop X W K c _ Q) $$ [Hin Hcom Lf Lt H4]
  · isplitr; · iexact HF
    unfold rsAll
    isplitl [Hin]; · iexact Hin
    isplitl [Hcom]; · iexact Hcom
    isplitl [Lf]; · iexact Lf
    isplitl [Lt] <;> iassumption
  unfold rsDone
  iintro ⟨Hin, Hcom, Lf, Lt, H1, H2, H3, H4⟩
  ihave Ef := (rsEnd_own X W c false) $$ [H1 H3]
  · isplitl [H1] <;> iassumption
  icases Ef with ⟨H1, H3, Ef⟩
  ihave Et := (rsEnd_own X W c true) $$ [H2 H4]
  · isplitl [H2] <;> iassumption
  icases Et with ⟨H2, H4, Et⟩
  iapply (own_start X W c false _ Q) $$ [Ef Vf]
  · isplitl [Ef] <;> iassumption
  iintro ⟨Ff, Bf⟩
  iapply (own_start X W c true _ Q) $$ [Et Vt]
  · isplitl [Et] <;> iassumption
  iintro ⟨Ft, Bt⟩
  iapply (ag_loop X W K c _ Q) $$ [Hcom H1 H2 H3 H4]
  · isplitr; · iexact HF
    unfold agAll
    isplitl [Hcom]; · iexact Hcom
    isplitl [H1]; · iexact H1
    isplitl [H2]; · iexact H2
    isplitl [H3] <;> iassumption
  iintro H
  iapply (last_iter X W K c _ Q) $$ [H]
  · isplitr; · iexact HF
    iexact H
  rw [show (com c 120 120 : sProp (MM F)) = iprop(owesE c (owing c 120) ∗ toks c 120 ∗ poss c 120 ∗ closed c 120) from rfl]
  iintro ⟨⟨HO, -, -, Hz⟩, H⟩
  iapply (end_step X W K c Q) $$ [HO H Ff Ft]
  · isplitr; · iexact HF
    isplitl [HO]; · iexact HO
    isplitl [H]; · iexact H
    isplitl [Ff] <;> iassumption
  iintro ⟨HO, ⟨⟨G1, C1⟩, ⟨G2, C2⟩, ⟨G3, C3⟩, ⟨G4, C4⟩⟩, ⟨Of, Af⟩, Vf, ⟨Ot, At⟩, Vt⟩
  iapply Hk
  unfold bodyOut dirSem
  isplitl [Hin]; · iexact Hin
  isplitl [G1 G2 G3 G4 Of Ot]
  · iapply (out_all X W c)
    isplitl [G1 G3 Of]
    · iapply (got_own X W c false)
      isplitl [G1]; · iexact G1
      isplitl [G3] <;> iassumption
    · iapply (got_own X W c true)
      isplitl [G2]; · iexact G2
      isplitl [G4] <;> iassumption
  isplitl [Af Bf At Bt]
  · isplitl [Af Bf]
    · iapply (bufs_back X W c false)
      isplitl [Af] <;> iassumption
    · iapply (bufs_back X W c true)
      isplitl [At] <;> iassumption
  isplitl [C1 C3 Lf Vf C2 C4 Lt Vt]
  · isplitl [C1 C3 Lf Vf]
    · isplitl [C1]; · iexact C1
      isplitl [C3]; · iexact C3
      isplitl [Lf] <;> iassumption
    · isplitl [C2]; · iexact C2
      isplitl [C4]; · iexact C4
      isplitl [Lt] <;> iassumption
  isplitl [HO]; · iexact HO
  isplitl [Hz] <;> iassumption

end Cert.KernelIdeal.Ring

end
-- ==== Proof.Own.lean ====
/-
The kernel's own semaphores and buffers, as the launch hands them out.
-/
module

public import proofs.«01_k».proof.Proof.Body

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]
variable (X : Dev nD → Vec F S8192x512 .f32) (W : Dev nD → Vec F S512x4096 .f32)
variable (K : Dev nD × Option (Fin 120) → ℕ)

open Idealize.ShloMosaic.Pipeline (Dat Cfg Window BodyObligation)

/-! ## The kernel's own semaphores -/

/-- A direction's semaphores beside its receives'. -/
abbrev rsem (d : Bool) : Fin 7 → DmaSem sig := fun
  | 0 => sendSem d 0 0 | 1 => sendSem d 0 1 | 2 => sendSem d 1 0 | 3 => sendSem d 1 1 | 4 => fetchSem d | 5 => stageSem d | 6 => copySem d
/-- The kernel's own semaphores: a receive's per hop, and the others of each direction. -/
abbrev osem : Fin 120 ⊕ Bool × Fin 7 → SemLoc sig
  | .inl w => csem (some w)
  | .inr k => .dma (rsem k.1 k.2)

theorem rsem_val : ∀ k : Bool × Fin 7, (2 ≤ (rsem k.1 k.2).val ∧ (rsem k.1 k.2).val < 6) ∨ (66 ≤ (rsem k.1 k.2).val ∧ (rsem k.1 k.2).val < 70) ∨ 130 ≤ (rsem k.1 k.2).val := by decide
theorem rsem_injective : Function.Injective fun k : Bool × Fin 7 => rsem k.1 k.2 := by decide
theorem rsem_scoped : ∀ k : Bool × Fin 7, (SemLoc.dma (rsem k.1 k.2) : SemLoc sig).isScoped .tc = true := by decide
theorem stage_sem_val : ∀ (w : Fin 2) (s : Fin (spec0 w).nbuf), ((spec0 w).sem s).val < 2 := by decide
theorem dma_scoped : ∀ q : DmaSem sig, (SemLoc.dma q : SemLoc sig).isScoped .tc = true := by decide

theorem csem_rsem (w : Fin 120) (k : Bool × Fin 7) : csem (some w) ≠ .dma (rsem k.1 k.2) := fun h => by
  have e : (recvSem (dOf w.val) (sOf w.val) (w.val / 4)).val = (rsem k.1 k.2).val := congrArg Fin.val (SemLoc.dma.inj h)
  rw [csem_val] at e
  have h1 := rsem_val k
  have h2 := w.isLt
  have h3 : w.val / 4 < 30 := by omega
  have h4 : w.val / 2 % 2 < 2 := Nat.mod_lt _ (by decide)
  generalize w.val / 4 = j at *
  generalize w.val / 2 % 2 = s at *
  rcases Nat.mod_two_eq_zero_or_one w.val with h | h <;> rw [h] at e <;> omega

theorem ownSemFacts : Pipeline.OwnSemFacts cfg0.spec osem where
  isScoped := by
    rintro (w | k)
    · exact dma_scoped _
    · exact dma_scoped _
  inj := by
    rintro (w | k) (w' | k') h
    · rw [Option.some.inj (csem_injective h)]
    · exact absurd h (csem_rsem w k')
    · exact absurd h.symm (csem_rsem w' k)
    · rw [rsem_injective (SemLoc.dma.inj h)]
  disj := by
    rintro (w | k) v s h
    · have e : (recvSem (dOf w.val) (sOf w.val) (w.val / 4)).val = ((spec0 v).sem s).val := congrArg Fin.val (SemLoc.dma.inj h)
      rw [csem_val] at e
      have := stage_sem_val v s
      omega
    · have e : (rsem k.1 k.2).val = ((spec0 v).sem s).val := congrArg Fin.val (SemLoc.dma.inj h)
      have := stage_sem_val v s
      have := rsem_val k
      omega

/-- Over the hops, by number. -/
theorem bigSep_hops (Φ : ℕ → sProp (MM F)) : (bigSep Finset.univ fun w : Fin 120 => Φ w.val) = bigSep (Finset.Ico 0 120) Φ := by
  have e : Finset.Ico 0 120 = (Finset.univ : Finset (Fin 120)).map ⟨Fin.val, Fin.val_injective⟩ := by
    ext k
    rw [Finset.mem_map, Finset.mem_Ico]
    constructor
    · intro h; exact ⟨⟨k, h.2⟩, Finset.mem_univ _, rfl⟩
    · rintro ⟨w, -, rfl⟩; exact ⟨Nat.zero_le _, w.isLt⟩
  rw [e, bigSep_map]
  rfl

theorem bigSep_opt (Φ : Option (Fin 120) → sProp (MM F)) : bigSep Finset.univ Φ = iprop(Φ none ∗ bigSep Finset.univ fun w : Fin 120 => Φ (some w)) := by
  rw [bigSep_univ_at Φ none, show Finset.univ.erase (none : Option (Fin 120)) = Finset.univ.map Function.Embedding.some from by
    ext k; cases k with
    | none => simp
    | some w => simp, bigSep_map]
  rfl

theorem bigSep_seven (Φ : Fin 7 → sProp (MM F)) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem dirSem_eq (c : Dev nD) (d : Bool) : (bigSep Finset.univ fun k : Fin 7 => semVal ((c : Thread nD τ), .dma (rsem d k)) 0) = (dirSem c d : sProp (MM F)) := by
  rw [bigSep_seven]
  unfold dirSem chainSem locs
  have h := fun (A B C D E G H : sProp (MM F)) => show iprop(A ∗ B ∗ C ∗ D ∗ E ∗ G ∗ H) = iprop((A ∗ B) ∗ (C ∗ D) ∗ (E ∗ G) ∗ H) from
    BI.Entails.antisymm (show iprop(A ∗ B ∗ C ∗ D ∗ E ∗ G ∗ H) ⊢ iprop((A ∗ B) ∗ (C ∗ D) ∗ (E ∗ G) ∗ H) by
      iintro ⟨H0, H1, H2, H3, H4, H5, H6⟩
      isplitl [H0 H1]; · isplitl [H0] <;> iassumption
      isplitl [H2 H3]; · isplitl [H2] <;> iassumption
      isplitl [H4 H5]; · isplitl [H4] <;> iassumption
      iexact H6) (show iprop((A ∗ B) ∗ (C ∗ D) ∗ (E ∗ G) ∗ H) ⊢ iprop(A ∗ B ∗ C ∗ D ∗ E ∗ G ∗ H) by
      iintro ⟨⟨H0, H1⟩, ⟨H2, H3⟩, ⟨H4, H5⟩, H6⟩
      isplitl [H0]; · iexact H0
      isplitl [H1]; · iexact H1
      isplitl [H2]; · iexact H2
      isplitl [H3]; · iexact H3
      isplitl [H4]; · iexact H4
      isplitl [H5] <;> iassumption)
  exact h _ _ _ _ _ _ _

/-- The kernel's own semaphores at rest, by hops and directions. -/
theorem ownSems0_eq (c : Dev nD) : (Pipeline.ownSems0 (Ix := Unit) (Name := ℕ) (U := UU) (Lvl := ℕ) (Val := Elt F) (τ := τ) osem c : sProp (MM F))
    = iprop((bigSep Finset.univ fun w : Fin 120 => semVal (kcell (c, some w)) 0) ∗ dirSem c false ∗ dirSem c true) := by
  unfold Pipeline.ownSems0
  rw [bigSep_univ_sum, bigSep_univ_prod (fun k : Bool × Fin 7 => (semVal ((c : Thread nD τ), osem (.inr k)) 0 : sProp (MM F))), bigSep_bool,
    ← dirSem_eq c false, ← dirSem_eq c true]
  rfl

/-- The barrier semaphore is the one unscoped. -/
theorem unscopedSems0_eq (c : Dev nD) : (unscopedSems0 c : sProp (MM F)) = semVal (barCell c) 0 := by
  unfold unscopedSems0; rw [bigSep_eq_bigSepL_of_eq [SemLoc.reg barSem] (by decide) (by decide)]; rfl

/-! ## The buffers -/

theorem whole_set (b : Ref sig .tc) : (Memref.whole b).view.set = Finset.univ := by rw [Memref.view_whole, View.set_whole]

theorem have_whole {sp : Space} {sh : Shape} (c : Dev nD) (m : Memref sig .tc sp sh .f32) (hm : m.view.set = Finset.univ) (f : Buf (Elt F) (m.view.loc (c : Thread nD τ))) :
    (m.view.loc (c : Thread nD τ) ↦{fullShare} f : sProp (MM F)) ⊢ have_ c m := by
  unfold have_
  iintro H
  iexists m.view.read (Elt F) f
  iapply (hold_of_read c m f _ rfl)
  rw [hm]
  iexact H

theorem whole_hold {sp : Space} {sh : Shape} (c : Dev nD) (m : Memref sig .tc sp sh .f32) (hm : m.view.set = Finset.univ) (Y : Vec F sh .f32) :
    (hold c m Y : sProp (MM F)) ⊢ (m.view.loc (c : Thread nD τ) ↦{fullShare} m.view.rep Y) := by
  unfold hold
  rw [hm]

theorem whole_have {sp : Space} {sh : Shape} (c : Dev nD) (m : Memref sig .tc sp sh .f32) (hm : m.view.set = Finset.univ) :
    (have_ c m : sProp (MM F)) ⊢ iprop(∃ f : Buf (Elt F) (m.view.loc (c : Thread nD τ)), (m.view.loc (c : Thread nD τ) ↦{fullShare} f)) := by
  unfold have_
  iintro ⟨%Y, H⟩
  iexists m.view.rep Y
  iapply (whole_hold c m hm Y) $$ H

end Cert.KernelIdeal.Ring

end
-- ==== Proof.Deal.lean ====
/-
How the launch deals the ring: cells, tokens dealt around the devices, and the credit of what each is owed.
-/
module

public import proofs.«01_k».proof.Proof.Own

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]
variable (X : Dev nD → Vec F S8192x512 .f32) (W : Dev nD → Vec F S512x4096 .f32)
variable (K : Dev nD × Option (Fin 120) → ℕ)

/-! ## The scheduled cells and their tokens -/

def ringCells : Finset (GSem nD τ sig) := Finset.univ.map ⟨kcell, kcell_injective⟩

/-- A device's own cells' tokens as minted: its barrier's two, and one per hop. -/
abbrev tokOf (ck : Dev nD × (Bool ⊕ Fin 120)) : GSem nD τ sig × ℕ × Bool := match ck.2 with
  | .inl b => (barCell ck.1, 0, b)
  | .inr w => (kcell (ck.1, some w), 0, false)
theorem tokOf_injective : Function.Injective tokOf := by
  rintro ⟨c, b | w⟩ ⟨c', b' | w'⟩ h
  · have h1 : kcell (c, none) = kcell (c', none) := congrArg Prod.fst h
    have h2 : b = b' := congrArg (fun x : GSem nD τ sig × ℕ × Bool => x.2.2) h
    rw [(Prod.mk.inj (kcell_injective h1)).1, h2]
  · have h1 : kcell (c, none) = kcell (c', some w') := congrArg Prod.fst h
    cases (Prod.mk.inj (kcell_injective h1)).2
  · have h1 : kcell (c, some w) = kcell (c', none) := congrArg Prod.fst h
    cases (Prod.mk.inj (kcell_injective h1)).2
  · have h1 : kcell (c, some w) = kcell (c', some w') := congrArg Prod.fst h
    have h2 := Prod.mk.inj (kcell_injective h1)
    rw [h2.1, Option.some.inj h2.2]
def ringToks : Finset (GSem nD τ sig × ℕ × Bool) := Finset.univ.map ⟨tokOf, tokOf_injective⟩

/-- The tokens of device `c`'s own cells. -/
def ownToks (c : Dev nD) : sProp (MM F) :=
  iprop((dutyTok ER (barCell c) 0 false ∗ dutyTok ER (barCell c) 0 true) ∗ bigSep Finset.univ fun w : Fin 120 => dutyTok ER (kcell (c, some w)) 0 false)
/-- The tokens device `c` pays with. -/
def payToks (c : Dev nD) : sProp (MM F) :=
  iprop((dutyTok ER (barCell (up false c 1)) 0 false ∗ dutyTok ER (barCell (up true c 1)) 0 true) ∗ bigSep Finset.univ fun w : Fin 120 => dutyTok ER (tCell c w.val) 0 false)

/-- The tokens dealt around the ring. -/
theorem toks_around : (bigSep Finset.univ fun c : Dev nD => (ownToks c : sProp (MM F))) ⊢ bigSep Finset.univ fun c : Dev nD => payToks c := by
  unfold ownToks payToks
  rw [bigSep_sep', bigSep_sep', bigSep_sep', bigSep_sep',
    bigSep_univ_equiv (upEquiv false 1) (fun c : Dev nD => (dutyTok ER (barCell c) 0 false : sProp (MM F))),
    bigSep_univ_equiv (upEquiv true 1) (fun c : Dev nD => (dutyTok ER (barCell c) 0 true : sProp (MM F))),
    bigSep_univ_comm (fun (c : Dev nD) (w : Fin 120) => (dutyTok ER (kcell (c, some w)) 0 false : sProp (MM F))),
    bigSep_univ_comm (fun (c : Dev nD) (w : Fin 120) => (dutyTok ER (tCell c w.val) 0 false : sProp (MM F))),
    bigSep_congr (s := Finset.univ) (fun (w : Fin 120) _ => bigSep_univ_equiv (upEquiv (dOf w.val) 15) (fun c : Dev nD => (dutyTok ER (kcell (c, some w)) 0 false : sProp (MM F)))),
    bigSep_congr (s := Finset.univ) (fun (w : Fin 120) _ => bigSep_congr (s := Finset.univ) (fun (c : Dev nD) _ =>
      show (dutyTok ER (kcell (upEquiv (dOf w.val) 15 c, some w)) 0 false : sProp (MM F)) = dutyTok ER (tCell c w.val) 0 false by
        show (dutyTok ER (rCell (up (dOf w.val) c 15) w.val) 0 false : sProp (MM F)) = dutyTok ER (rCell (toDev (dOf w.val) c) w.val) 0 false
        rw [toDev_eq]))]
  exact .rfl

/-! ## What the launch element deals -/

/-- What the ring's launch element deals device `c`. -/
def G (c : Dev nD) : sProp (MM F) :=
  iprop((bigSep Finset.univ fun k : Option (Fin 120) => roundState ER (ringRd X W) (kcell (c, k)) 0)
    ∗ (bigSep Finset.univ fun k : Option (Fin 120) => iprop(atPos ER (kcell (c, k)) 0 ∅ 0 ∗ reached ER (kcell (c, k)) 0)) ∗ ownToks c)

/-- The cells' invariants, named by `K`, and that every cell is at its round. -/
def records : sProp (MM F) :=
  iprop((bigSep Finset.univ fun ck => cellInv ER (ringRd X W) (K ck) (kcell ck)) ∗ bigSep Finset.univ fun ck => reached ER (kcell ck) 0)

instance records_persistent : BI.Persistent (records X W K) := by unfold records; infer_instance

/-- What stays with device `c`: its other semaphores, its positions, the tokens it pays with. -/
def keeps (c : Dev nD) : sProp (MM F) :=
  iprop((dirSem c false ∗ dirSem c true) ∗ (bigSep Finset.univ fun k : Option (Fin 120) => atPos ER (kcell (c, k)) 0 ∅ 0) ∗ payToks c)

def G' (c : Dev nD) : sProp (MM F) := iprop(∃ K, records X W K ∗ keeps c)

theorem fund_ring : BI.own (ER (initOf ringCells ringToks)) ⊢ (|==> bigSep Finset.univ (G X W) : sProp (MM F)) := by
  have hX (Φ : GSem nD τ sig → sProp (MM F)) : bigSep ringCells Φ = bigSep Finset.univ fun c : Dev nD => bigSep Finset.univ fun k : Option (Fin 120) => Φ (kcell (c, k)) := by
    unfold ringCells; rw [bigSep_map, bigSep_univ_prod]; rfl
  have hT : bigSep ringToks (fun x => (dutyTok ER x.1 x.2.1 x.2.2 : sProp (MM F))) = bigSep Finset.univ fun c : Dev nD => ownToks c := by
    unfold ringToks; rw [bigSep_map, bigSep_univ_prod]
    exact bigSep_congr fun c _ => by unfold ownToks; rw [bigSep_univ_sum, bigSep_bool]; rfl
  iintro HX
  imod (Rounds.fund ER (ringRd X W) ringCells ringToks) $$ HX with ⟨Hst, Hr, Hat, Htok⟩
  imodintro
  ihave Hst' := (Entails.of_eq (hX fun g => roundState ER (ringRd X W) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- A device's semaphores at rest: its scheduled cells' and the others. -/
theorem sems0_split (c : Dev nD) :
    iprop(Pipeline.ownSems0 (Ix := Unit) (Name := ℕ) (U := UU) (Lvl := ℕ) (Val := Elt F) (τ := τ) osem c ∗ unscopedSems0 c)
      ⊢ iprop((bigSep Finset.univ fun k : Option (Fin 120) => semVal (kcell (c, k)) 0) ∗ (dirSem c false ∗ dirSem c true) : sProp (MM F)) := by
  rw [ownSems0_eq, unscopedSems0_eq, bigSep_opt]
  iintro ⟨⟨HV, HD⟩, HB⟩
  isplitl [HV HB]
  · isplitl [HB] <;> iassumption
  iexact HD

/-- Device `c`'s cells allocated, beside what stays as it is. -/
def opened (c : Dev nD) : sProp (MM F) :=
  iprop((bigSep Finset.univ fun k => iprop(∃ κ : ℕ, cellInv ER (ringRd X W) κ (kcell (c, k))))
    ∗ (bigSep Finset.univ fun k => iprop(atPos ER (kcell (c, k)) 0 ∅ 0 ∗ reached ER (kcell (c, k)) 0)) ∗ ownToks c ∗ (dirSem c false ∗ dirSem c true))

theorem core_alloc (c : Dev nD) :
    iprop(Pipeline.ownSems0 (Ix := Unit) (Name := ℕ) (U := UU) (Lvl := ℕ) (Val := Elt F) (τ := τ) osem c ∗ unscopedSems0 c ∗ G X W c)
      ⊢ |={Set.univ}=> opened X W c := by
  unfold G opened
  iintro ⟨Hos, Hus, Hst, Hat, Htok⟩
  ihave Hv := (sems0_split (F := F) c) $$ [Hos Hus]
  · isplitl [Hos] <;> iassumption
  icases Hv with ⟨Hv, HD⟩
  imod (show iprop((bigSep Finset.univ fun k : Option (Fin 120) => semVal (kcell (c, k)) 0) ∗ bigSep Finset.univ fun k : Option (Fin 120) => roundState ER (ringRd X W) (kcell (c, k)) 0)
      ⊢ (|={Set.univ}=> bigSep Finset.univ fun k => iprop(∃ κ : ℕ, cellInv ER (ringRd X W) κ (kcell (c, k))) : sProp (MM F)) from by
        rw [← bigSep_sep']
        exact (bigSep_mono fun k _ => (Rounds.body_intro ER (ringRd X W) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

theorem deal_intro (c : Dev nD) : iprop(records X W K ∗ keeps c) ⊢ G' X W c := by
  unfold G'
  iintro ⟨HR, HK⟩
  iexists K
  isplitl [HR] <;> iassumption

theorem keeps_all : (iprop((bigSep Finset.univ fun c : Dev nD => iprop(dirSem c false ∗ dirSem c true))
      ∗ (bigSep Finset.univ fun c : Dev nD => bigSep Finset.univ fun k : Option (Fin 120) => atPos ER (kcell (c, k)) 0 ∅ 0)
      ∗ bigSep Finset.univ fun c : Dev nD => payToks c) : sProp (MM F)) = bigSep Finset.univ fun c : Dev nD => keeps c := by
  unfold keeps
  simp only [bigSep_sep']

theorem regroup : (bigSep Finset.univ fun c : Dev nD => opened X W c) ⊢ bigSep Finset.univ (G' X W) := by
  unfold opened
  rw [bigSep_sep', bigSep_sep', bigSep_sep', ← bigSep_univ_prod (fun ck : Dev nD × Option (Fin 120) => iprop(∃ κ : ℕ, cellInv ER (ringRd X W) κ (kcell ck))),
    bigSep_congr (s := Finset.univ) (fun (c : Dev nD) _ => bigSep_sep' Finset.univ (fun k : Option (Fin 120) => (atPos ER (kcell (c, k)) 0 ∅ 0 : sProp (MM F))) (fun k => reached ER (kcell (c, k)) 0)),
    bigSep_sep', ← bigSep_univ_prod (fun ck : Dev nD × Option (Fin 120) => (reached ER (kcell ck) 0 : sProp (MM F)))]
  iintro ⟨HI, ⟨Hat, #HR⟩, Htok, HD⟩
  ihave HK := (BI.bigSep_exists_pi Finset.univ (fun (ck : Dev nD × Option (Fin 120)) (κ : ℕ) => (cellInv ER (ringRd X W) κ (kcell ck) : sProp (MM F)))) $$ HI
  icases HK with ⟨%K, #HI⟩
  ihave Htk := (toks_around (F := F)) $$ Htok
  iapply (bigSep_with_persistent (R := records X W K) fun c _ => deal_intro X W K c)
  isplitr
  · unfold records; isplitl; · iexact HI
    iexact HR
  · iapply (Entails.of_eq keeps_all)
    isplitl [HD]; · iexact HD
    isplitl [Hat] <;> iassumption

/-- The global step: every device's semaphores become its cells at once. -/
theorem glob : (bigSep Finset.univ fun c => iprop(Pipeline.ownSems0 (Ix := Unit) (Name := ℕ) (U := UU) (Lvl := ℕ) (Val := Elt F) (τ := τ) osem c ∗ unscopedSems0 c ∗ G X W c) : sProp (MM F))
    ⊢ |={Set.univ}=> bigSep Finset.univ (G' X W) :=
  ((bigSep_mono fun c _ => core_alloc X W c).trans (bigSep_fupd _ _)).trans (BI.fupd_mono (regroup X W))

/-! ## The launch credit -/

/-- What the devices owe one semaphore of each other, each its own permuted neighbour's, is what each is owed there. -/
theorem cred_perm (e : Dev nD ≃ Dev nD) (sm : SemLoc sig) (n : ℕ) (c : Dev nD) :
    (Pipeline.launchCred (fun d => tallyAt ((e d : Thread nD τ), sm) () n) c : sProp (MM F)) = cred (tallyAt ((c : Thread nD τ), sm) () n) :=
  by
  have hs : ∑ d : Dev nD, (tallyAt ((e d : Thread nD τ), sm) () n : CellTallies nD τ sig Unit) = ∑ d : Dev nD, tallyAt ((d : Thread nD τ), sm) () n :=
    Fintype.sum_equiv e _ _ fun _ => rfl
  exact Pipeline.launchCred_of_sum _ (fun d : Dev nD => (tallyAt ((d : Thread nD τ), sm) () n : CellTallies nD τ sig Unit)) hs
    (fun d g h => by
      by_contra hn
      exact h (tallyAt_ne_cell (fun hg => hn (congrArg Prod.fst hg)) () n)) c

theorem cred_owed (c : Dev nD) : (Pipeline.launchCred owed1 c : sProp (MM F))
    = iprop(((bigSep (Finset.Ico 0 120) fun w => cred (tallyAt (rCell c w) () N)) ∗ cred (tallyAt (barCell c) () 1)) ∗ cred (tallyAt (barCell c) () 1)) := by
  show (Pipeline.launchCred (fun d => (∑ w ∈ Finset.Ico 0 120, tallyAt (tCell d w) () N) + tallyAt (barCell (up true d 1)) () 1 + tallyAt (barCell (up false d 1)) () 1) c : sProp (MM F)) = _
  rw [Pipeline.launchCred_add (fun d => (∑ w ∈ Finset.Ico 0 120, tallyAt (tCell d w) () N) + tallyAt (barCell (up true d 1)) () 1) (fun d => tallyAt (barCell (up false d 1)) () 1),
    Pipeline.launchCred_add (fun d => (∑ w ∈ Finset.Ico 0 120, tallyAt (tCell d w) () N)) (fun d => tallyAt (barCell (up true d 1)) () 1),
    Pipeline.launchCred_sum (Finset.Ico 0 120) (fun w d => tallyAt (tCell d w) () N) c,
    show (Pipeline.launchCred (fun d => tallyAt (barCell (up true d 1)) () 1) c : sProp (MM F)) = _ from cred_perm (upEquiv true 1) (.reg barSem) 1 c,
    show (Pipeline.launchCred (fun d => tallyAt (barCell (up false d 1)) () 1) c : sProp (MM F)) = _ from cred_perm (upEquiv false 1) (.reg barSem) 1 c,
    bigSep_congr (s := Finset.Ico 0 120) (fun w _ => show (Pipeline.launchCred (fun d => tallyAt (tCell d w) () N) c : sProp (MM F)) = cred (tallyAt (rCell c w) () N) by
      rw [show (fun d : Dev nD => (tallyAt (tCell d w) () N : CellTallies nD τ sig Unit)) = fun d => tallyAt ((upEquiv (dOf w) 15 d : Thread nD τ), .dma (recvSem (dOf w) (sOf w) (w / 4))) () N from
        funext fun d => by rw [show (tCell d w) = rCell (toDev (dOf w) d) w from rfl, toDev_eq]; rfl]
      exact cred_perm (upEquiv (dOf w) 15) _ N c)]

theorem creds (c : Dev nD) :
    (Pipeline.launchCred owed1 c : sProp (MM F)) ⊢ iprop(cred (tallyAt (barCell c) () 2) ∗ bigSep (Finset.Ico 0 120) fun w => cred (tallyAt (rCell c w) () N)) := by
  rw [cred_owed]
  iintro ⟨⟨Hr, H1⟩, H2⟩
  isplitr [Hr]
  · iapply (show iprop(cred (tallyAt (barCell c) () 1) ∗ cred (tallyAt (barCell c) () 1)) ⊢ (cred (tallyAt (barCell c) () 2) : sProp (MM F)) from by
      rw [show (tallyAt (barCell c) () 2 : CellTallies nD τ sig Unit) = tallyAt (barCell c) () 1 + tallyAt (barCell c) () 1 from (tallyAt_add _ _ 1 1).symm]
      exact (cred_add _ _).2)
    isplitl [H1] <;> iassumption
  · iexact Hr

/-! ## What a device's body starts from -/

/-- What is left of the body's start once its buffers and debts are counted apart. -/
def bodyGhost (c : Dev nD) : sProp (MM F) :=
  iprop((dirSem c false ∗ dirSem c true) ∗ barGhost c ∗ toks c 0 ∗ poss c 0)

theorem ghost_intro (c : Dev nD) :
    iprop(keeps c ∗ cred (tallyAt (barCell c) () 2) ∗ bigSep (Finset.Ico 0 120) fun w => cred (tallyAt (rCell c w) () N)) ⊢ (bodyGhost c : sProp (MM F)) := by
  unfold keeps bodyGhost barGhost payToks toks poss
  rw [bigSep_opt, bigSep_sep', bigSep_hops (fun w => (dutyTok ER (tCell c w) 0 false : sProp (MM F))),
    show (bigSep Finset.univ fun w : Fin 120 => (atPos ER (kcell (c, some w)) 0 ∅ 0 : sProp (MM F))) = bigSep (Finset.Ico 0 120) fun w => atPos ER (rCell c w) 0 ∅ 0 from
      bigSep_hops (fun w => (atPos ER (rCell c w) 0 ∅ 0 : sProp (MM F)))]
  iintro ⟨⟨HD, ⟨HaB, Ha⟩, ⟨Hb1, Hb2⟩, Ht⟩, HcB, Hc⟩
  isplitl [HD]; · iexact HD
  isplitl [HaB Hb1 Hb2 HcB]
  · isplitl [Hb1]; · iexact Hb1
    isplitl [Hb2]; · iexact Hb2
    isplitl [HaB] <;> iassumption
  isplitl [Ht]; · iexact Ht
  isplitl [Ha] <;> iassumption

end Cert.KernelIdeal.Ring

end
-- ==== Proof.Dats.lean ====
/-
What each device holds around its one point, and the body's obligation from the body.
-/
module

public import proofs.«01_k».proof.Proof.Deal
public import proofs.«01_k».proof.Proof.Gen.KernelIdeal.Launch
public import proofs.«01_k».proof.Proof.Gen.KernelIdeal.Points

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]
variable (X : Dev nD → Vec F S8192x512 .f32) (W : Dev nD → Vec F S512x4096 .f32)
variable (K : Dev nD × Option (Fin 120) → ℕ)

open Idealize.ShloMosaic.Pipeline (Dat Cfg Window BodyObligation)

variable (m : (ℓ : Loc nD τ sig) → Buf (Elt F) ℓ)

/-! ## The arguments -/

/-- The arguments each device's launch memory holds. -/
def xIn (c : Dev nD) : Vec F S8192x512 .f32 := m ((c : Thread nD τ).loc main_arg0)
def wIn (c : Dev nD) : Vec F S512x4096 .f32 := m ((c : Thread nD τ).loc main_arg1)

theorem read_blk0 (f : main_arg0.ty.Contents (Elt F)) : (win0_0.blk t0_0).view.read (Elt F) f = f :=
  Memref.read_access_unit_zero (Elt F) main_arg0 (show (fun a => (win0_0.index t0_0) a * main_arg0.ty.shape.size a) = fun _ => 0 from funext fun a => by fin_cases a <;> decide)
    (fun a => by fin_cases a <;> decide) f
theorem read_blk1 (f : main_arg1.ty.Contents (Elt F)) : (win0_1.blk t0_0).view.read (Elt F) f = f :=
  Memref.read_access_unit_zero (Elt F) main_arg1 (show (fun a => (win0_1.index t0_0) a * main_arg1.ty.shape.size a) = fun _ => 0 from funext fun a => by fin_cases a <;> decide)
    (fun a => by fin_cases a <;> decide) f

/-! ## What a device holds before and after its one point -/

/-- Before the body: the ghosts, the records, the buffers. -/
def start (c : Dev nD) : sProp (MM F) :=
  iprop((∃ K, facts (xIn m) (wIn m) K) ∗ bodyGhost c ∗ have_ c oM ∗ have_ c (sumM false) ∗ have_ c (sumM true))
def Φ₀ (c : Dev nD) : sProp (MM F) := iprop(start m c ∗ bufs c false ∗ bufs c true)
/-- After it: the output whole, every semaphore at rest. -/
def done (c : Dev nD) : sProp (MM F) := iprop(∃ O, ⌜IsOut (outV (xIn m) (wIn m)) O⌝ ∗ hold c oM O)
def Φ₁ (c : Dev nD) : sProp (MM F) :=
  iprop((semVal (barCell c) 0 ∗ done m c) ∗ (closed c 120 ∗ dirSem c false ∗ dirSem c true) ∗ bufs c false ∗ bufs c true)

def dats (_ : Fin 1) (c : Dev nD) : Dat τ (Elt F) Unit ℕ UU ℕ cfg0 c where
  A w := m ((cfg0.win w).arr.view.loc (c : Thread nD τ))
  after w _ := match w with
    | ⟨0, _⟩ => xIn m c
    | ⟨1, _⟩ => wIn m c
  Φ t := match t with
    | ⟨0, _⟩ => Φ₀ m c
    | ⟨_ + 1, _⟩ => Φ₁ m c
  q _ := fullShare
  owed t := match t with
    | ⟨0, _⟩ => owed1 c
    | ⟨_ + 1, _⟩ => 0

theorem before_x (c : Dev nD) (d) : (dats m 0 c).before (0 : Fin 2) t0_0 d = xIn m c := by
  unfold Dat.before
  rw [if_pos (fetch0_0 t0_0)]
  exact read_blk0 (F := F) (m ((c : Thread nD τ).loc main_arg0))
theorem before_w (c : Dev nD) (d) : (dats m 0 c).before (1 : Fin 2) t0_0 d = wIn m c := by
  unfold Dat.before
  rw [if_pos (fetch0_1 t0_0)]
  exact read_blk1 (F := F) (m ((c : Thread nD τ).loc main_arg1))

theorem owns_whole_eq (c : Dev nD) (b : Ref sig .tc) (X : b.ty.Contents (Elt F)) :
    (owns (Ix := Unit) (Name := ℕ) (U := UU) (Lvl := ℕ) (c : Thread nD τ) (Memref.whole b) fullShare X : sProp (MM F))
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A whole buffer held at contents `Y`, as the pipeline keeps its staging buffers. -/
abbrev stg (c : Dev nD) (b : Ref sig .tc) (Y : b.ty.Contents (Elt F)) : sProp (MM F) :=
  iprop(∃ f : Buf (Elt F) ((c : Thread nD τ).loc b), ⌜f = Y⌝ ∗ (((c : Thread nD τ).loc b) ↦{fullShare} f))

theorem read_whole_view (b : Ref sig .tc) (f : b.ty.Contents (Elt F)) : (Memref.whole b).view.read (Elt F) f = f := by
  simp only [Memref.view_whole, View.read_whole]
theorem rep_whole (b : Ref sig .tc) (Y : b.ty.shape.Idx → Elt F b.ty.elt) : (Memref.whole b).view.rep Y = Y :=
  (read_whole_view b _).symm.trans (View.read_rep _ Y)

theorem stg_hold_x (c : Dev nD) (Y : Vec F S8192x512 .f32) : (stg c cc0_stg0_0 Y : sProp (MM F)) ⊢ hold c xM Y := by
  iintro ⟨%f, %hf, H⟩
  subst hf
  iapply (hold_of_read c xM f _ (read_whole_view _ _))
  rw [show xM.view.set = Finset.univ from whole_set _]
  iexact H
theorem stg_hold_w (c : Dev nD) (Y : Vec F S512x4096 .f32) : (stg c cc0_stg1_0 Y : sProp (MM F)) ⊢ hold c wM Y := by
  iintro ⟨%f, %hf, H⟩
  subst hf
  iapply (hold_of_read c wM f _ (read_whole_view _ _))
  rw [show wM.view.set = Finset.univ from whole_set _]
  iexact H
theorem hold_stg_x (c : Dev nD) (Y : Vec F S8192x512 .f32) : (hold c xM Y : sProp (MM F)) ⊢ stg c cc0_stg0_0 Y := by
  iintro H
  iexists xM.view.rep Y
  isplitr
  · ipureintro; exact rep_whole _ _
  iapply (whole_hold c xM (whole_set _) Y) $$ H
theorem hold_stg_w (c : Dev nD) (Y : Vec F S512x4096 .f32) : (hold c wM Y : sProp (MM F)) ⊢ stg c cc0_stg1_0 Y := by
  iintro H
  iexists wM.view.rep Y
  isplitr
  · ipureintro; exact rep_whole _ _
  iapply (whole_hold c wM (whole_set _) Y) $$ H

/-! ## The body obligation -/

def pre (c : Dev nD) : sProp (MM F) :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))
def post (c : Dev nD) : sProp (MM F) :=
  iprop(Φ₁ m c ∗ (dats m 0 c).owesAt () t0_0.succ ∗ stg c cc0_stg0_0 (xIn m c) ∗ stg c cc0_stg1_0 (wIn m c))

theorem owes_in (c : Dev nD) : ((dats m 0 c).owesAt () t0_0.castSucc : sProp (MM F)) ⊢ owesE c (owed1 c) := by
  unfold Dat.owesAt Pipeline.owesWithin owesE
  rw [show (dats m 0 c).owed t0_0.castSucc = owed1 c from rfl]
  iintro ⟨%W, -, HO⟩
  iexists W
  iexact HO
theorem owes_out (c : Dev nD) : (owesE c (owing c 120) : sProp (MM F)) ⊢ (dats m 0 c).owesAt () t0_0.succ := by
  unfold Dat.owesAt Pipeline.owesWithin owesE
  rw [show (dats m 0 c).owed t0_0.succ = 0 from rfl, owing_end c 120 le_rfl]
  iintro ⟨%W, HO⟩
  iexists W
  isplitr
  · ipureintro; exact fun _ _ => Or.inl trivial
  iexact HO

theorem body_run (c : Dev nD) : pre m c ⊢ run c (bodyK c) (fun _ => post m c) := by
  unfold pre Φ₀ start bodyGhost
  iintro ⟨⟨⟨⟨%K, HF⟩, ⟨HD, HB, HT, HP⟩, Ho, Hsf, Hst⟩, Hb⟩, HO, ⟨%dx, Hx⟩, ⟨%dw, Hw⟩⟩
  rw [before_x, before_w]
  ihave Hx := (stg_hold_x c (xIn m c)) $$ Hx
  ihave Hw := (stg_hold_w c (wIn m c)) $$ Hw
  ihave HO := (owes_in m c) $$ HO
  iapply (body (xIn m) (wIn m) K c (fun _ => post m c)) $$ [HF HD HB HT HP Ho Hsf Hst Hb HO Hx Hw]
  · isplitl [HF]; · iexact HF
    unfold bodyIn ins
    isplitl [Hx Hw]; · isplitl [Hx] <;> iassumption
    isplitl [Ho]; · iexact Ho
    isplitl [Hsf Hst]; · isplitl [Hsf] <;> iassumption
    isplitl [Hb]; · iexact Hb
    isplitl [HD]; · iexact HD
    isplitl [HO]; · iexact HO
    isplitl [HB]; · iexact HB
    isplitl [HT] <;> iassumption
  unfold bodyOut ins post Φ₁ done
  iintro ⟨⟨Hx, Hw⟩, Ho, Hb, HD, HO, HC, HB⟩
  ihave Hx := (hold_stg_x c (xIn m c)) $$ Hx
  ihave Hw := (hold_stg_w c (wIn m c)) $$ Hw
  ihave HO := (owes_out m c) $$ HO
  isplitl [Hb HD Ho HC HB]
  · isplitl [Ho HB]; · isplitl [HB] <;> iassumption
    isplitl [HC HD]; · isplitl [HC] <;> iassumption
    iexact Hb
  isplitl [HO]; · iexact HO
  isplitl [Hx] <;> iassumption

theorem bigSep_W (Φ : Fin cfg0.W → sProp (MM F)) : bigSep Finset.univ Φ = iprop(Φ (0 : Fin 2) ∗ Φ (1 : Fin 2)) := bigSep_W0 Φ

set_option maxRecDepth 100000 in
/-- The library's body obligation on device `c`. -/
theorem body_obligation (c : Dev nD) : BodyObligation (dats m 0 c) (defs₀ (F := F)) 𝒱₀ () Set.univ := fun t => by
  rw [fin_N0 t]
  rw [bigSep_W, bigSep_W]
  simp only [owns_whole_eq]
  show pre m c ⊢ wp frame (wpE (defs₀ (F := F)) 𝒱₀ c none) Set.univ
    (cc0_body xM (Memref.isWhole_whole _) wM (Memref.isWhole_whole _) oM (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9)
    (fun _ => post m c)
  rw [body_eq, wp_deviceId]
  exact body_run m c

end Cert.KernelIdeal.Ring

end
-- ==== Proof.Launch.lean ====
/-
The run: sixteen devices' kernels launched together, from the bodies to what every execution ends at.
-/
module

public import proofs.«01_k».proof.Proof.Dats
public import Idealize.ShloMosaic.Lib.Pipeline.Launch
public import Idealize.ShloMosaic.Lib.Pipeline.CollectiveSegs

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]
variable (X : Dev nD → Vec F S8192x512 .f32) (W : Dev nD → Vec F S512x4096 .f32)
variable (K : Dev nD × Option (Fin 120) → ℕ)

open Idealize.ShloMosaic.Pipeline (Dat Cfg Window BodyObligation)

variable (m : (ℓ : Loc nD τ sig) → Buf (Elt F) ℓ) (ρ : Dev nD → PrngReg)

theorem share_eq (c : Dev nD) (w : Fin cfg0.W) : (dats m 0 c).share w = fullShare := by unfold Dat.share; split <;> rfl

/-- The launch element: the pipeline's cells, the ring's cells and tokens, and nothing of the counters. -/
def u₀ : UU :=
  (initOf (Pipeline.cells cfgs cellOf_inj) (Pipeline.launchToks cfgs cellOf_inj), (initOf ringCells ringToks, 1))

theorem deal (a : UR sig nD τ) (b : UB) : (ownU ((a, (b, 1)) : UU) : sProp (MM F)) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

theorem unscoped_have (c : Dev nD) :
    (Pipeline.unscopedRestP (Ix := Unit) (Name := ℕ) (U := UU) (Lvl := ℕ) Pipeline.Prefetch.none cfg0.spec c (fun b => m ((c : Thread nD τ).loc b)) : sProp (MM F))
      ⊢ iprop(have_ c oM ∗ have_ c (sumM false) ∗ have_ c (sumM true)) := by
  rw [Pipeline.unscopedRestP_eq_of_list spec0 c Pipeline.Prefetch.none (fun b => m ((c : Thread nD τ).loc b)) [main_v1_0, main_v1_1, main_v1_2] (by decide) (by decide)]
  show iprop(((c : Thread nD τ).loc main_v1_0 ↦{fullShare} m ((c : Thread nD τ).loc main_v1_0))
    ∗ ((c : Thread nD τ).loc main_v1_1 ↦{fullShare} m ((c : Thread nD τ).loc main_v1_1))
    ∗ ((c : Thread nD τ).loc main_v1_2 ↦{fullShare} m ((c : Thread nD τ).loc main_v1_2))) ⊢ _
  iintro ⟨H0, H1, H2⟩
  isplitl [H0]; · iapply (have_whole c oM (whole_set _) _) $$ H0
  isplitl [H1]; · iapply (have_whole c (sumM false) (whole_set _) _) $$ H1
  iapply (have_whole c (sumM true) (whole_set _) _) $$ H2

theorem scoped_bufs (c : Dev nD) :
    (Pipeline.scopedRest (Ix := Unit) (Name := ℕ) (U := UU) (Lvl := ℕ) (Val := Elt F) spec0 c : sProp (MM F)) ⊢ iprop(bufs c false ∗ bufs c true) := by
  rw [scopedRest0_eq]
  unfold bufs
  iintro ⟨⟨%f0, H0⟩, ⟨%f1, H1⟩, ⟨%f2, H2⟩, ⟨%f3, H3⟩⟩
  isplitl [H0 H2]
  · isplitl [H0]; · iapply (have_whole c (accM false) (whole_set _) _) $$ H0
    iapply (have_whole c (tmpM false) (whole_set _) _) $$ H2
  · isplitl [H1]; · iapply (have_whole c (accM true) (whole_set _) _) $$ H1
    iapply (have_whole c (tmpM true) (whole_set _) _) $$ H3

theorem bufs_scoped (c : Dev nD) :
    (iprop(bufs c false ∗ bufs c true) : sProp (MM F)) ⊢ Pipeline.scopedRest (Ix := Unit) (Name := ℕ) (U := UU) (Lvl := ℕ) (Val := Elt F) spec0 c := by
  rw [scopedRest0_eq]
  unfold bufs
  iintro ⟨⟨H0, H2⟩, H1, H3⟩
  isplitl [H0]; · iapply (whole_have c (accM false) (whole_set _)) $$ H0
  isplitl [H1]; · iapply (whole_have c (accM true) (whole_set _)) $$ H1
  isplitl [H2]; · iapply (whole_have c (tmpM false) (whole_set _)) $$ H2
  iapply (whole_have c (tmpM true) (whole_set _)) $$ H3

theorem start_intro (c : Dev nD) :
    iprop(Pipeline.unscopedRestP Pipeline.Prefetch.none cfg0.spec c (fun b => m ((c : Thread nD τ).loc b)) ∗ levAts L lv
        ∗ Pipeline.launchCred owed1 c ∗ prngReg c (ρ c) ∗ G' (xIn m) (wIn m) c)
      ⊢ |={Set.univ}=> iprop(start m c ∗ emp) := by
  iintro ⟨Hu, Hlev, Hcr, -, HG⟩
  ihave Hc := (creds (F := F) c) $$ Hcr
  ihave Hu := (unscoped_have m c) $$ Hu
  unfold G' records
  icases HG with ⟨%K, ⟨HI, HR⟩, HK⟩
  ihave Hg := (ghost_intro (F := F) c) $$ [HK Hc]
  · isplitl [HK] <;> iassumption
  imodintro
  isplitl
  · unfold start facts
    isplitl [HI HR Hlev]
    · iexists K
      isplitl [HI]; · iexact HI
      isplitl [HR] <;> iassumption
    isplitl [Hg]; · iexact Hg
    iexact Hu
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  ihave Hr := (scoped_bufs (F := F) c) $$ Hr
  isplitl [Hs] <;> iassumption

theorem closed_hops (c : Dev nD) : closed c 120 = (bigSep Finset.univ fun w : Fin 120 => semVal (kcell (c, some w)) 0 : sProp (MM F)) :=
  (bigSep_hops (fun w => (semVal (rCell c w) 0 : sProp (MM F)))).symm

/-- What a device's run leaves for the claim to read. -/
def left (c : Dev nD) : sProp (MM F) := iprop(semVal (barCell c) 0 ∗ done m c)

theorem phi1_exit (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = Φ₁ m c from rfl, ownSems0_eq]
  unfold Φ₁ left
  rw [closed_hops]
  iintro ⟨HB, HS, Hb⟩
  ihave Hb := (bufs_scoped (F := F) c) $$ Hb
  isplitl [HB]; · iexact HB
  isplitl [HS] <;> iassumption

theorem waits (c : Dev nD) : (levAts L lv : sProp (MM F)) ⊢ Pipeline.cellsWaits cfgs (dats m) () 0 c :=
  Pipeline.cellsWaits_intro cfgs (dats m) () 0 c fun w s t => by
    rcases t with ⟨_ | _, ht⟩
    · exact wait_low1 c ((spec0 w).sem s) (Or.inl (Nat.lt_of_lt_of_le (stage_sem_val w s) (by decide)))
    · show (levAts L lv : sProp (MM F)) ⊢ MayWait (c : Thread nD τ) (.dma ((spec0 w).sem s)) () 0
      rw [MayWait_zero]
      iintro -
      iempintro

/-! ## The run -/

/-- A device's end: its barrier at rest and the output it holds. -/
def QY (c : Dev nD) (s : MemSt nD τ sig (Elt F)) : Prop :=
  (∀ sm : SemLoc sig, sm.isScoped .tc = false → s.sem ((c.tc : Thread nD τ), sm) = 0)
    ∧ IsOut (outV (xIn m) (wIn m)) (s.mem ((c : Thread nD τ).loc main_v1_0))

theorem rep_out (O : Vec F S8192x4096 .f32) : oM.view.rep O = O := rep_whole main_v1_0 O

theorem one_of (Φ : Fin 1 → sProp (MM F)) : Φ 0 ⊢ bigSep Finset.univ Φ :=
  Entails.of_eq (bigSep_univ_eq_bigSepL [(0 : Fin 1)] (by decide) (by decide) Φ).symm

theorem read_left (c : Dev nD) (s' : Phys nD τ sig (Elt F)) :
    iprop(left m c ∗ emp ∗ SI s') ⊢ |={Set.univ}=> (iprop(⌜QY m c s'.mem⌝ ∗ SI s') : sProp (MM F)) := by
  unfold left done
  iintro ⟨⟨HB, ⟨%O, %hO, Ho⟩⟩, -, HSI⟩
  ihave Ho := (whole_hold c oM (whole_set _) O) $$ Ho
  ihave Hr := (show iprop((bigSep (Finset.univ : Finset (Fin 1)) fun _ => ((c : Thread nD τ).loc main_v1_0 ↦{fullShare} (oM.view.rep O : Buf (Elt F) ((c : Thread nD τ).loc main_v1_0)) : sProp (MM F))) ∗ SI s')
      ⊢ iprop(⌜∀ i ∈ (Finset.univ : Finset (Fin 1)), s'.mem.mem ((c : Thread nD τ).loc main_v1_0) = oM.view.rep O⌝ ∗ SI s') from
        pointsTo_read_all (Finset.univ : Finset (Fin 1)) (fun _ => (c : Thread nD τ).loc main_v1_0) (fun _ => oM.view.rep O) s') $$ [Ho HSI]
  · isplitl [Ho]
    · iapply (one_of (F := F) (fun _ => ((c : Thread nD τ).loc main_v1_0 ↦{fullShare} (oM.view.rep O : Buf (Elt F) ((c : Thread nD τ).loc main_v1_0)) : sProp (MM F)))) $$ Ho
    · iexact HSI
  icases Hr with ⟨%hr, HSI⟩
  imod (Pipeline.unscopedSems0_read (X := unscopedSems0 c) (c := c) fupd_intro s') $$ [HB HSI] with ⟨%hs, HSI⟩
  · isplitl [HB]
    · rw [unscopedSems0_eq]; iexact HB
    · iexact HSI
  imodintro
  isplitr
  · ipureintro
    refine ⟨hs, ?_⟩
    rw [hr 0 (Finset.mem_univ _), rep_out O]
    exact hO
  · iexact HSI

theorem keep (c : Dev nD) (w : Fin cfg0.W) (h : (cfg0.win w).isOut = false) (t : ℕ) : (dats m 0 c).arrAt w t = m ((cfg0.win w).arr.view.loc (c : Thread nD τ)) :=
  (dats m 0 c).arrAt_in w h t

/-- What every run ends at: the output assembled on every device, the arguments as they were, every counter at rest. -/
def Ends (s : MemSt nD τ sig (Elt F)) : Prop :=
  (∀ c : Dev nD, IsOut (outV (xIn m) (wIn m)) (s.mem ((c : Thread nD τ).loc main_v1_0)) ∧ s.mem ((c : Thread nD τ).loc main_arg0) = m ((c : Thread nD τ).loc main_arg0)
    ∧ s.mem ((c : Thread nD τ).loc main_arg1) = m ((c : Thread nD τ).loc main_arg1)) ∧ s.sem = fun _ => 0

set_option maxRecDepth 100000 in
/-- Every weakly fair execution of the sixteen devices' kernels, from any memory with its counters at zero, ends so. -/
theorem run_main : θ_run defs (onTc (τ := τ) (main (F := F))) ⟨m, fun _ => 0, ρ⟩ (fun r => Ends m r.2) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := owed1) (howed₀ := fun _ => rfl) (howedN := fun _ => rfl)
    (L := L) (lv := lv) (hL := L_of_ne) (hwaits := waits m)
    (G := G (xIn m) (wIn m)) (G' := G' (xIn m) (wIn m)) (u₀ := u₀)
    (hu₀ := by
      unfold u₀
      iintro Hu
      ihave H := (deal _ _) $$ Hu
      icases H with ⟨HP, HX⟩
      imod (fund_ring (xIn m) (wIn m)) $$ HX with HG
      imodintro
      isplitl [HP] <;> iassumption)
    (hglob := glob (xIn m) (wIn m))
    (hA := fun _ _ => rfl) (hpf := fun _ k => k.elim0)
    (X := start m) (Y := left m) (Z := fun _ => iprop(emp))
    (hX := start_intro m ρ) (hin := phi0_intro m) (hout := phi1_exit m)
    (QY := QY m)
    (hY := read_left m)
    (hQ := fun s h hs => ⟨fun c => ⟨(h c).2.2.2, ((h c).1 (0 : Fin 2)).trans (keep m c (0 : Fin 2) rfl _), ((h c).1 (1 : Fin 2)).trans (keep m c (1 : Fin 2) rfl _)⟩, sem_eq_zero hs fun c => (h c).2.2.1⟩)

end Cert.KernelIdeal.Ring

end
-- ==== Proof.Frames.lean ====
/-
The frames: each program's run, its arguments kept and its counters at rest.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.Proof

open Idealize.ShloMosaic Idealize.SL.Sem

/-- The idealized kernel terminates, keeps its arguments and leaves every counter at zero. -/
theorem frame_kernelIdeal : Cert.quiescent_KernelIdeal := fun m ρ _ =>
  (θ_run (Cert.KernelIdeal.defs (F := Ideal)) _ _).mono (fun _ h => ⟨fun c => (h.1 c).2, h.2⟩) (Cert.KernelIdeal.Ring.run_main (F := Ideal) m ρ)

set_option maxRecDepth 1000000 in
/-- The kernel and its idealization have one body table: their texts are the same. -/
theorem defs_eq : Cert.Kernel.defs (F := Bits) = Cert.KernelIdeal.defs (F := Bits) := by chain_rfl

set_option maxRecDepth 1000000 in
/-- They have one host program. -/
theorem main_eq : Cert.Kernel.main (F := Bits) = Cert.KernelIdeal.main (F := Bits) := by chain_rfl

set_option maxRecDepth 100000 in
/-- The kernel's run is its idealization's, over words. -/
theorem frame_kernel : Cert.quiescent_Kernel := by
  intro m ρ _
  rw [defs_eq, main_eq]
  exact (θ_run (Cert.KernelIdeal.defs (F := Bits)) _ _).mono (fun _ h => ⟨fun c => (h.1 c).2, h.2⟩)
    (Cert.KernelIdeal.Ring.run_main (F := Bits) m ρ)

/-- The reference declares no semaphore. -/
theorem frame_reference : Cert.quiescent_ReferenceIdeal := fun m ρ _ =>
  (θ_run (Cert.ReferenceIdeal.defs (F := Ideal)) _ _).mono
    (fun r h => ⟨fun c => (h c).2, by funext g; obtain ⟨t, s⟩ := g; rcases s with s | s <;> exact s.elim0⟩)
    (Cert.ReferenceIdeal.Value.run m ρ)

end Cert.Proof

end
-- ==== Proof.Value.lean ====
/-
What the ring leaves is the reference's value: over the reals, the partial products added in the order of the ring
are the whole product.
-/
module

public import proofs.«01_k».proof.Proof.Body
public import Idealize.ShloMosaic.Lib.Pointwise

@[expose] public section

set_option maxRecDepth 16384

noncomputable section

namespace Cert.KernelIdeal.Ring

open Cert.KernelIdeal Cert.KernelIdeal.Gen
open Idealize.ShloMosaic

/-- Row `r` of chunk `ch`, as a row of the whole array. -/
def rowIn (ch : Dev nD) (r : Fin 512) : Fin 8192 := ⟨512 * ch.val + r.val, by have : ch.val < 16 := ch.isLt; omega⟩
/-- Column `q` of direction `d`. -/
def colIn (d : Bool) (q : Fin 2048) : Fin 4096 := ⟨2048 * d.toNat + q.val, by have := Bool.toNat_le d; omega⟩
/-- Column `q` of half `s` of a direction. -/
def halfIn (s : Fin 2) (q : Fin 1024) : Fin 2048 := ⟨1024 * s.val + q.val, by omega⟩

/-- A device's partial product, element by element. -/
theorem part_apply (X : Vec Ideal S8192x512 .f32) (W : Vec Ideal S512x4096 .f32) (d : Bool) (ch : Dev nD) (r : Fin 512) (q : Fin 2048) :
    part X W d ch (ix2 r q) = ∑ k : Fin 512, X (ix2 (rowIn ch r) k) * W (ix2 k (colIn d q)) := by
  pointwise [part, dotP, rowsOf, colsOf]
  refine Finset.sum_congr rfl fun k _ => ?_
  congr 1
  · refine congrArg X (funext fun a => Fin.ext ?_)
    match a with
    | 0 => show 512 * ch.val + 1 * r.val = 512 * ch.val + r.val; omega
    | 1 => show 0 + 1 * k.val = k.val; omega
  · refine congrArg W (funext fun a => Fin.ext ?_)
    match a with
    | 0 => show 0 + 1 * k.val = k.val; omega
    | 1 => show 2048 * d.toNat + 1 * q.val = 2048 * d.toNat + q.val; omega

theorem halfP_ix (s : Fin 2) (p : FVec Ideal S512x2048 .f32) (r : Fin 512) (q : Fin 1024) :
    halfP s p (ix2 r q) = p (ix2 r (halfIn s q)) := halfP_apply s p _ _ rfl rfl

/-- The activation of one element, as the kernel associates it. -/
def act (y : EReal) : EReal :=
  Ideal.ofBits FTy.f32 0x3F000000#32 * y * (1 + Ideal.tanh (Ideal.ofBits FTy.f32 0x3F4C422A#32 * (y + Ideal.ofBits FTy.f32 0x3D372713#32 * y * y * y)))

theorem actB_ix (y : FVec Ideal S512x1024 .f32) (j : S512x1024.Idx) : actB y j = act (y j) := by
  pointwise [actB, act]

theorem accB_ix (i : ℕ) (hi : i < 14) (s : Fin 2) (p : FVec Ideal S512x2048 .f32) (v : Vec Ideal S512x1024 .f32) (r : Fin 512) (q : Fin 1024) :
    accB i s p v (ix2 r q) = v (ix2 r q) + p (ix2 r (halfIn s q)) := by
  rw [← halfP_ix s p]
  unfold accB
  split
  · omega
  · rfl

theorem accB_last (s : Fin 2) (p : FVec Ideal S512x2048 .f32) (v : Vec Ideal S512x1024 .f32) (r : Fin 512) (q : Fin 1024) :
    accB 14 s p v (ix2 r q) = act (v (ix2 r q) + p (ix2 r (halfIn s q))) := by
  rw [← halfP_ix s p]
  exact actB_ix _ _

/-! ## The order of the ring -/

variable (X : Dev nD → Vec Ideal S8192x512 .f32) (W : Dev nD → Vec Ideal S512x4096 .f32)

/-- A hop before the last of the reduce-scatter carries the sum of its devices' partial products. -/
theorem val_sum (j : ℕ) (hj : j < 15) (c : Dev nD) (d : Bool) (s : Fin 2) (r : Fin 512) (q : Fin 1024) :
    val X W j c d s (ix2 r q) = ∑ i ∈ Finset.range (j + 1), part (X (up d c i)) (W (up d c i)) d (up d c (j + 1)) (ix2 r (halfIn s q)) := by
  induction j generalizing c with
  | zero =>
    rw [Finset.sum_range_one, up_zero]
    exact halfP_ix s _ r q
  | succ j ih =>
    rw [val_rs X W j (by omega), accB_ix j (by omega), ih (by omega), Finset.sum_range_succ' _ (j + 1), up_zero]
    simp only [up_up, Nat.add_comm 1]

theorem up_bijective (d : Bool) (c : Dev nD) : Function.Bijective (fun i : Fin 16 => up d c i.val) :=
  (Finite.injective_iff_bijective (α := Fin 16)).1 (by revert d c; decide)

/-- The last carries the activation of the sum over all devices. -/
theorem val_last (c : Dev nD) (d : Bool) (s : Fin 2) (r : Fin 512) (q : Fin 1024) :
    val X W 15 c d s (ix2 r q) = act (∑ e : Dev nD, part (X e) (W e) d c (ix2 r (halfIn s q))) := by
  rw [show (15 : ℕ) = 14 + 1 from rfl, val_rs X W 14 (by omega), accB_last, val_sum X W 14 (by omega)]
  congr 1
  rw [← (up_bijective d c).sum_comp (fun e => part (X e) (W e) d c (ix2 r (halfIn s q))), ← Finset.sum_range (fun i => part (X (up d c i)) (W (up d c i)) d c (ix2 r (halfIn s q))),
    Finset.sum_range_succ' _ 15, up_zero]
  simp only [up_up, Nat.add_comm 1, Nat.reduceAdd, up_sixteen]

/-! ## The whole product -/

theorem sum_depth (f : Fin 8192 → EReal) : ∑ e : Dev nD, ∑ k : Fin 512, f (rowIn e k) = ∑ k : Fin 8192, f k := by
  rw [← Fintype.sum_prod_type' (f := fun (e : Dev nD) (k : Fin 512) => f (rowIn e k))]
  exact Fintype.sum_equiv (finProdFinEquiv (m := 16) (n := 512)) _ _ fun p => congrArg f (Fin.ext (Nat.add_comm _ _))

variable (A : Vec Ideal (⟨2, ![8192, 8192]⟩ : Shape) .f32) (B : Vec Ideal (⟨2, ![8192, 4096]⟩ : Shape) .f32)

theorem block_x (c : Dev nD) (R : Fin 8192) (k : Fin 512) :
    Layout.block (⟨2, ![8192, 512]⟩ : Shape) ⟨2, ![8192, 8192]⟩ 1 16 c A (by decide) (ix2 R k) = A (ix2 R (rowIn c k)) := by
  refine congrArg A (funext fun a => Fin.ext ?_)
  match a with
  | 0 => rfl
  | 1 => exact congrArg (· + k.val) (Nat.mul_comm c.val 512)

theorem block_w (c : Dev nD) (k : Fin 512) (C : Fin 4096) :
    Layout.block (⟨2, ![512, 4096]⟩ : Shape) ⟨2, ![8192, 4096]⟩ 0 16 c B (by decide) (ix2 k C) = B (ix2 (rowIn c k) C) := by
  refine congrArg B (funext fun a => Fin.ext ?_)
  match a with
  | 0 => exact congrArg (· + k.val) (Nat.mul_comm c.val 512)
  | 1 => rfl

/-- The sum of the devices' partial products is the whole product. -/
theorem sum_part (hX : ∀ e, X e = Layout.block ⟨2, ![8192, 512]⟩ ⟨2, ![8192, 8192]⟩ 1 16 e A)
    (hW : ∀ e, W e = Layout.block ⟨2, ![512, 4096]⟩ ⟨2, ![8192, 4096]⟩ 0 16 e B) (d : Bool) (ch : Dev nD) (r : Fin 512) (q : Fin 2048) :
    ∑ e : Dev nD, part (X e) (W e) d ch (ix2 r q) = ∑ k : Fin 8192, A (ix2 (rowIn ch r) k) * B (ix2 k (colIn d q)) := by
  rw [← sum_depth]
  refine Finset.sum_congr rfl fun e _ => ?_
  rw [part_apply]
  refine Finset.sum_congr rfl fun k _ => ?_
  rw [hX, hW, block_x, block_w]

/-! ## The result -/

/-- Every place of the result is in one block. -/
theorem out_apply (Y : Vec Ideal S8192x4096 .f32) (hY : IsOut (outV X W) Y)
    (hX : ∀ e, X e = Layout.block ⟨2, ![8192, 512]⟩ ⟨2, ![8192, 8192]⟩ 1 16 e A)
    (hW : ∀ e, W e = Layout.block ⟨2, ![512, 4096]⟩ ⟨2, ![8192, 4096]⟩ 0 16 e B) (R : Fin 8192) (C : Fin 4096) :
    Y (ix2 R C) = act (∑ k : Fin 8192, A (ix2 R k) * B (ix2 k C)) := by
  obtain ⟨ch, r, rfl⟩ : ∃ (ch : Dev nD) (r : Fin 512), R = rowIn ch r :=
    ⟨(⟨R.val / 512, by omega⟩ : Fin 16), ⟨R.val % 512, by omega⟩, Fin.ext (Nat.div_add_mod _ _).symm⟩
  obtain ⟨d, q', rfl⟩ : ∃ (d : Bool) (q' : Fin 2048), C = colIn d q' := by
    by_cases h : C.val < 2048
    · exact ⟨false, ⟨C.val, h⟩, Fin.ext (Nat.zero_add _).symm⟩
    · exact ⟨true, ⟨C.val - 2048, by omega⟩, Fin.ext (show C.val = 2048 * 1 + (C.val - 2048) by omega)⟩
  obtain ⟨s, q, rfl⟩ : ∃ (s : Fin 2) (q : Fin 1024), q' = halfIn s q :=
    ⟨⟨q'.val / 1024, by omega⟩, ⟨q'.val % 1024, by omega⟩, Fin.ext (Nat.div_add_mod _ _).symm⟩
  rw [← sum_part X W A B hX hW, ← val_last]
  refine Eq.trans (congrArg Y (funext fun a => Fin.ext ?_)) (hY (ch, d, s) (ix2 r q))
  match a with
  | 0 => show 512 * ch.val + r.val = 512 * ch.val + 1 * r.val; omega
  | 1 => show 2048 * d.toNat + (1024 * s.val + q.val) = 2048 * d.toNat + 1024 * s.val + 1 * q.val; omega

end Cert.KernelIdeal.Ring

end
-- ==== Proof.Algebraic.lean ====
/-
The value claim: over the reals, the array every device ends with is the reference's.
-/
module

public import proofs.«01_k».proof.Defs
public import proofs.«01_k».proof.Proof.Launch
public import proofs.«01_k».proof.Proof.Value
public import proofs.«01_k».proof.Proof.Gen.ReferenceIdeal
public import proofs.«01_k».proof.Proof.Gen.ReferenceIdeal.Run

@[expose] public section

set_option maxRecDepth 16384

noncomputable section

namespace Cert.Proof

open Idealize.ShloMosaic Idealize.SL.Sem

/-- The product of the reference's arguments. -/
abbrev prodR (A : Vec Ideal (⟨2, ![8192, 8192]⟩ : Shape) .f32) (B : Vec Ideal (⟨2, ![8192, 4096]⟩ : Shape) .f32) : FVec Ideal Cert.ReferenceIdeal.S8192x4096 .f32 :=
  Host.dotGeneral (φ₁ := .f32) (φ₂ := .f32) Cert.ReferenceIdeal.dot_S8192x8192_S8192x4096_S8192x4096_1_0_0_1_n_n none A B

open Cert.ReferenceIdeal Cert.ReferenceIdeal.Gen in
/-- The reference's result, as its operations compose it. -/
abbrev resR (A : Vec Ideal (⟨2, ![8192, 8192]⟩ : Shape) .f32) (B : Vec Ideal (⟨2, ![8192, 4096]⟩ : Shape) .f32) : FVec Ideal S8192x4096 .f32 :=
  mulf (mulf (broadcastInDim S8192x4096 ![] bcast_S_S8192x4096 (constant S_ .f32 0x3F000000#32)) (prodR A B))
    (addf (broadcastInDim S8192x4096 ![] bcast_S_S8192x4096 (constant S_ .f32 0x3F800000#32))
      (Host.tanh (mulf (broadcastInDim S8192x4096 ![] bcast_S_S8192x4096 (constant S_ .f32 0x3F4C422A#32))
        (addf (prodR A B) (mulf (broadcastInDim S8192x4096 ![] bcast_S_S8192x4096 (constant S_ .f32 0x3D372713#32)) (mulf (mulf (prodR A B) (prodR A B)) (prodR A B)))))))

/-- The reference's result, element by element: the kernel's activation of the product. -/
theorem resR_apply (A : Vec Ideal (⟨2, ![8192, 8192]⟩ : Shape) .f32) (B : Vec Ideal (⟨2, ![8192, 4096]⟩ : Shape) .f32) (R : Fin 8192) (C : Fin 4096) :
    resR A B (ix2 R C) = Cert.KernelIdeal.Ring.act (∑ k : Fin 8192, A (ix2 R k) * B (ix2 k C)) := by
  pointwise [resR, prodR, Cert.KernelIdeal.Ring.act]
  generalize (∑ k : Fin 8192, A (ix2 R k) * B (ix2 k C)) = y
  simp only [mul_assoc]

open Cert.KernelIdeal.Ring in
/-- Over the reals every device ends with the reference's result. -/
theorem algebraic : Cert.algebraic_KernelIdeal_ReferenceIdeal := by
  intro m g m' g' _ hagree
  refine ⟨resR (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run (Cert.KernelIdeal.defs (F := Ideal)) _ _).mono (fun r h c => ⟨?_, (h.1 c).2⟩) (run_main (F := Ideal) m g)
    refine funext fun j => ?_
    rw [eq_ix2 j]
    exact (out_apply _ _ _ _ _ (h.1 c).1 (fun e => (hagree e).1) (fun e => (hagree e).2) (j 0) (j 1)).trans (resR_apply _ _ (j 0) (j 1)).symm
  · exact (θ_run (Cert.ReferenceIdeal.defs (F := Ideal)) _ _).mono (fun r h => h 0) (Cert.ReferenceIdeal.Value.run m' g')

end Cert.Proof

end
-- ==== Proof.lean ====
/-
The claims of this certificate: the frames of the kernel, of its idealization and of the reference, and
that over the reals the kernel's result is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
